-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 128, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩

class Facts : Prop where
  bcast_S_S2x256x512 : S_.BroadcastsInDim S2x256x512 (![] : Fin 0 → Fin S2x256x512.rank)
  bcast_S_S512x8192 : S_.BroadcastsInDim S512x8192 (![] : Fin 0 → Fin S512x8192.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x8192 .bf16) (main_arg2 : FVec F S2x256x4x64 .bf16) (main_arg3 : FVec F S2x256x4x64 .bf16) (main_arg4 : FVec F S8192x512 .bf16) : IVec S2x256x512 1 × IVec S512x8192 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x8192 .bf16 := Host.absf main_arg1
  let main_cst_0 : FVec F S_ .bf16 := constant S_ .bf16 0x7F80#16
  let main_v4 : FVec F S512x8192 .bf16 := broadcastInDim S512x8192 ![] bcast_S_S512x8192 main_cst_0
  let main_v5 : IVec S512x8192 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_scores_ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S_ : Shape := ⟨0, ![]⟩

class Facts : Prop where
  bcast_S_S2x256x512 : S_.BroadcastsInDim S2x256x512 (![] : Fin 0 → Fin S2x256x512.rank)
  bcast_S_S512x8192 : S_.BroadcastsInDim S512x8192 (![] : Fin 0 → Fin S512x8192.rank)
  bcast_S_S2x256x128x64 : S_.BroadcastsInDim S2x256x128x64 (![] : Fin 0 → Fin S2x256x128x64.rank)

variable [Facts]

def fn {F : FTy → Type} [FloatOps F] (main_arg0 : FVec F S2x256x512 .bf16) (main_arg1 : FVec F S512x8192 .bf16) (main_arg2 : FVec F S2x256x128x64 .bf16) (main_arg3 : FVec F S2x256x128x64 .bf16) (main_arg4 : FVec F S8192x512 .bf16) : IVec S2x256x512 1 × IVec S512x8192 1 × IVec S2x256x128x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x8192 .bf16 := Host.absf main_arg1
  let main_cst_0 : FVec F S_ .bf16 := constant S_ .bf16 0x7F80#16
  let main_v4 : FVec F S512x8192 .bf16 := broadcastInDim S512x8192 ![] bcast_S_S512x8192 main_cst_0
  let main_v5 : IVec S512x8192 1 := cmpf .olt main_v3 main_v4
  let main_v6 : FVec F S2x256x128x64 .bf16 := Host.absf main_arg2
  let main_cst_1 : FVec F S_ .bf16 := constant S_ .bf16 0x7F80#16
  let main_v7 : FVec F S2x256x128x64 .bf16 := broadcastInDim S2x256x128x64 ![] bcast_S_S2x256x128x64 main_cst_1
  let main_v8 : IVec S2x256x128x64 1 := cmpf .olt main_v6 main_v7
  (main_v2, main_v5, main_v8)
-- ==== Kernel.lean ====
abbrev S2x256x512 : Shape := ⟨3, ![2, 256, 512]⟩
abbrev S512x8192 : Shape := ⟨2, ![512, 8192]⟩
abbrev S2x256x4x64 : Shape := ⟨4, ![2, 256, 4, 64]⟩
abbrev S8192x512 : Shape := ⟨2, ![8192, 512]⟩
abbrev S_ : Shape := ⟨0, ![]⟩
abbrev S512x256 : Shape := ⟨2, ![512, 256]⟩
abbrev S256x512 : Shape := ⟨2, ![256, 512]⟩
abbrev S512x512 : Shape := ⟨2, ![512, 512]⟩
abbrev S512x4x64 : Shape := ⟨3, ![512, 4, 64]⟩
abbrev S31x16x512 : Shape := ⟨3, ![31, 16, 512]⟩
abbrev S16x512 : Shape := ⟨2, ![16, 512]⟩
abbrev S31 : Shape := ⟨1, ![31]⟩
abbrev S512x64 : Shape := ⟨2, ![512, 64]⟩
abbrev S512x1x64 : Shape := ⟨3, ![512, 1, 64]⟩
abbrev S512 : Shape := ⟨1, ![512]⟩
abbrev S512x1 : Shape := ⟨2, ![512, 1]⟩
abbrev S1x16x512 : Shape := ⟨3, ![1, 16, 512]⟩
abbrev S1 : Shape := ⟨1, ![1]⟩

abbrev nBuf : Space → Nat
  | .hbm => 34
  | .vmem => 12
  | .smem => 0
  | _ => 0

abbrev bufTy : (tb : Table) → Fin (tcTables nBuf tb) → BufTy
  | .hbm, ⟨0, _⟩ => ⟨S2x256x512, .bf16⟩
  | .hbm, ⟨1, _⟩ => ⟨S512x8192, .bf16⟩
  | .hbm, ⟨2, _⟩ => ⟨S2x256x4x64, .bf16⟩
  | .hbm, ⟨3, _⟩ => ⟨S2x256x4x64, .bf16⟩
  | .hbm, ⟨4, _⟩ => ⟨S8192x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S512x512, .bf16⟩
  | .hbm, ⟨30, _⟩ => ⟨S512x4x64, .bf16⟩
  | .hbm, ⟨31, _⟩ => ⟨S512x4x64, .bf16⟩
  | .hbm, ⟨32, _⟩ => ⟨S512x512, .bf16⟩
  | .hbm, ⟨33, _⟩ => ⟨S2x256x512, .bf16⟩
  | .local _ .vmem, ⟨0, _⟩ => ⟨S512x512, .bf16⟩
  | .local _ .vmem, ⟨1, _⟩ => ⟨S512x256, .bf16⟩
  | .local _ .vmem, ⟨2, _⟩ => ⟨S512x4x64, .bf16⟩
  | .local _ .vmem, ⟨3, _⟩ => ⟨S512x4x64, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S31x16x512, .bf16⟩
  | .local _ .vmem, ⟨9, _⟩ => ⟨S31x16x512, .bf16⟩
  | .local _ .vmem, ⟨10, _⟩ => ⟨S16x512, .bf16⟩
  | .local _ .vmem, ⟨11, _⟩ => ⟨S31x16x512, .bf16⟩
  | _, _ => ⟨S2x256x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_195 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v290 : BitVec 32 := Scalar.addi v2 c1_i32_195
  let c32_i32_196 : BitVec 32 := 32#32
  let v291 : BitVec 32 := Scalar.remsi v290 c32_i32_196
  let c16_i32_197 : BitVec 32 := 16#32
  let v292 : BitVec 32 := Scalar.muli v291 c16_i32_197
  let v293 : Index := Scalar.indexCast v292
  let c0_198 : Index := 0#32
  ![v293.toNat, 0]
def k0_dev32 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_385 : BitVec 32 := 1#32
  let v538 : BitVec 32 := Scalar.addi v2 c1_i32_385
  let c32_i32_386 : BitVec 32 := 32#32
  let v539 : BitVec 32 := Scalar.remsi v538 c32_i32_386
  let c1_i32_391 : BitVec 32 := 1#32
  let v540 : BitVec 32 := Scalar.muli v539 c1_i32_391
  let v541 : BitVec 32 := Scalar.addi c0_i32_392 v540
  v541.toNat
def k0_dev33 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_397 : BitVec 32 := 2#32
  let v550 : BitVec 32 := Scalar.addi v2 c2_i32_397
  let c32_i32_398 : BitVec 32 := 32#32
  let v551 : BitVec 32 := Scalar.remsi v550 c32_i32_398
  let c1_i32_403 : BitVec 32 := 1#32
  let v552 : BitVec 32 := Scalar.muli v551 c1_i32_403
  let v553 : BitVec 32 := Scalar.addi c0_i32_404 v552
  v553.toNat
def k0_dev34 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_409 : BitVec 32 := 3#32
  let v562 : BitVec 32 := Scalar.addi v2 c3_i32_409
  let c32_i32_410 : BitVec 32 := 32#32
  let v563 : BitVec 32 := Scalar.remsi v562 c32_i32_410
  let c1_i32_415 : BitVec 32 := 1#32
  let v564 : BitVec 32 := Scalar.muli v563 c1_i32_415
  let v565 : BitVec 32 := Scalar.addi c0_i32_416 v564
  v565.toNat
def k0_dev35 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_421 : BitVec 32 := 4#32
  let v574 : BitVec 32 := Scalar.addi v2 c4_i32_421
  let c32_i32_422 : BitVec 32 := 32#32
  let v575 : BitVec 32 := Scalar.remsi v574 c32_i32_422
  let c1_i32_427 : BitVec 32 := 1#32
  let v576 : BitVec 32 := Scalar.muli v575 c1_i32_427
  let v577 : BitVec 32 := Scalar.addi c0_i32_428 v576
  v577.toNat
def k0_dev36 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_433 : BitVec 32 := 5#32
  let v586 : BitVec 32 := Scalar.addi v2 c5_i32_433
  let c32_i32_434 : BitVec 32 := 32#32
  let v587 : BitVec 32 := Scalar.remsi v586 c32_i32_434
  let c1_i32_439 : BitVec 32 := 1#32
  let v588 : BitVec 32 := Scalar.muli v587 c1_i32_439
  let v589 : BitVec 32 := Scalar.addi c0_i32_440 v588
  v589.toNat
def k0_dev37 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_445 : BitVec 32 := 6#32
  let v598 : BitVec 32 := Scalar.addi v2 c6_i32_445
  let c32_i32_446 : BitVec 32 := 32#32
  let v599 : BitVec 32 := Scalar.remsi v598 c32_i32_446
  let c1_i32_451 : BitVec 32 := 1#32
  let v600 : BitVec 32 := Scalar.muli v599 c1_i32_451
  let v601 : BitVec 32 := Scalar.addi c0_i32_452 v600
  v601.toNat
def k0_dev38 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_457 : BitVec 32 := 7#32
  let v610 : BitVec 32 := Scalar.addi v2 c7_i32_457
  let c32_i32_458 : BitVec 32 := 32#32
  let v611 : BitVec 32 := Scalar.remsi v610 c32_i32_458
  let c1_i32_463 : BitVec 32 := 1#32
  let v612 : BitVec 32 := Scalar.muli v611 c1_i32_463
  let v613 : BitVec 32 := Scalar.addi c0_i32_464 v612
  v613.toNat
def k0_dev39 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_469 : BitVec 32 := 8#32
  let v622 : BitVec 32 := Scalar.addi v2 c8_i32_469
  let c32_i32_470 : BitVec 32 := 32#32
  let v623 : BitVec 32 := Scalar.remsi v622 c32_i32_470
  let c1_i32_475 : BitVec 32 := 1#32
  let v624 : BitVec 32 := Scalar.muli v623 c1_i32_475
  let v625 : BitVec 32 := Scalar.addi c0_i32_476 v624
  v625.toNat
def k0_dev40 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_481 : BitVec 32 := 9#32
  let v634 : BitVec 32 := Scalar.addi v2 c9_i32_481
  let c32_i32_482 : BitVec 32 := 32#32
  let v635 : BitVec 32 := Scalar.remsi v634 c32_i32_482
  let c1_i32_487 : BitVec 32 := 1#32
  let v636 : BitVec 32 := Scalar.muli v635 c1_i32_487
  let v637 : BitVec 32 := Scalar.addi c0_i32_488 v636
  v637.toNat
def k0_dev41 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_493 : BitVec 32 := 10#32
  let v646 : BitVec 32 := Scalar.addi v2 c10_i32_493
  let c32_i32_494 : BitVec 32 := 32#32
  let v647 : BitVec 32 := Scalar.remsi v646 c32_i32_494
  let c1_i32_499 : BitVec 32 := 1#32
  let v648 : BitVec 32 := Scalar.muli v647 c1_i32_499
  let v649 : BitVec 32 := Scalar.addi c0_i32_500 v648
  v649.toNat
def k0_dev42 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_505 : BitVec 32 := 11#32
  let v658 : BitVec 32 := Scalar.addi v2 c11_i32_505
  let c32_i32_506 : BitVec 32 := 32#32
  let v659 : BitVec 32 := Scalar.remsi v658 c32_i32_506
  let c1_i32_511 : BitVec 32 := 1#32
  let v660 : BitVec 32 := Scalar.muli v659 c1_i32_511
  let v661 : BitVec 32 := Scalar.addi c0_i32_512 v660
  v661.toNat
def k0_dev43 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_517 : BitVec 32 := 12#32
  let v670 : BitVec 32 := Scalar.addi v2 c12_i32_517
  let c32_i32_518 : BitVec 32 := 32#32
  let v671 : BitVec 32 := Scalar.remsi v670 c32_i32_518
  let c1_i32_523 : BitVec 32 := 1#32
  let v672 : BitVec 32 := Scalar.muli v671 c1_i32_523
  let v673 : BitVec 32 := Scalar.addi c0_i32_524 v672
  v673.toNat
def k0_dev44 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_529 : BitVec 32 := 13#32
  let v682 : BitVec 32 := Scalar.addi v2 c13_i32_529
  let c32_i32_530 : BitVec 32 := 32#32
  let v683 : BitVec 32 := Scalar.remsi v682 c32_i32_530
  let c1_i32_535 : BitVec 32 := 1#32
  let v684 : BitVec 32 := Scalar.muli v683 c1_i32_535
  let v685 : BitVec 32 := Scalar.addi c0_i32_536 v684
  v685.toNat
def k0_dev45 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_541 : BitVec 32 := 14#32
  let v694 : BitVec 32 := Scalar.addi v2 c14_i32_541
  let c32_i32_542 : BitVec 32 := 32#32
  let v695 : BitVec 32 := Scalar.remsi v694 c32_i32_542
  let c1_i32_547 : BitVec 32 := 1#32
  let v696 : BitVec 32 := Scalar.muli v695 c1_i32_547
  let v697 : BitVec 32 := Scalar.addi c0_i32_548 v696
  v697.toNat
def k0_dev46 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_553 : BitVec 32 := 15#32
  let v706 : BitVec 32 := Scalar.addi v2 c15_i32_553
  let c32_i32_554 : BitVec 32 := 32#32
  let v707 : BitVec 32 := Scalar.remsi v706 c32_i32_554
  let c1_i32_559 : BitVec 32 := 1#32
  let v708 : BitVec 32 := Scalar.muli v707 c1_i32_559
  let v709 : BitVec 32 := Scalar.addi c0_i32_560 v708
  v709.toNat
def k0_dev47 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_565 : BitVec 32 := 16#32
  let v718 : BitVec 32 := Scalar.addi v2 c16_i32_565
  let c32_i32_566 : BitVec 32 := 32#32
  let v719 : BitVec 32 := Scalar.remsi v718 c32_i32_566
  let c1_i32_571 : BitVec 32 := 1#32
  let v720 : BitVec 32 := Scalar.muli v719 c1_i32_571
  let v721 : BitVec 32 := Scalar.addi c0_i32_572 v720
  v721.toNat
def k0_dev48 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_577 : BitVec 32 := 17#32
  let v730 : BitVec 32 := Scalar.addi v2 c17_i32_577
  let c32_i32_578 : BitVec 32 := 32#32
  let v731 : BitVec 32 := Scalar.remsi v730 c32_i32_578
  let c1_i32_583 : BitVec 32 := 1#32
  let v732 : BitVec 32 := Scalar.muli v731 c1_i32_583
  let v733 : BitVec 32 := Scalar.addi c0_i32_584 v732
  v733.toNat
def k0_dev49 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_589 : BitVec 32 := 18#32
  let v742 : BitVec 32 := Scalar.addi v2 c18_i32_589
  let c32_i32_590 : BitVec 32 := 32#32
  let v743 : BitVec 32 := Scalar.remsi v742 c32_i32_590
  let c1_i32_595 : BitVec 32 := 1#32
  let v744 : BitVec 32 := Scalar.muli v743 c1_i32_595
  let v745 : BitVec 32 := Scalar.addi c0_i32_596 v744
  v745.toNat
def k0_dev50 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_601 : BitVec 32 := 19#32
  let v754 : BitVec 32 := Scalar.addi v2 c19_i32_601
  let c32_i32_602 : BitVec 32 := 32#32
  let v755 : BitVec 32 := Scalar.remsi v754 c32_i32_602
  let c1_i32_607 : BitVec 32 := 1#32
  let v756 : BitVec 32 := Scalar.muli v755 c1_i32_607
  let v757 : BitVec 32 := Scalar.addi c0_i32_608 v756
  v757.toNat
def k0_dev51 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_613 : BitVec 32 := 20#32
  let v766 : BitVec 32 := Scalar.addi v2 c20_i32_613
  let c32_i32_614 : BitVec 32 := 32#32
  let v767 : BitVec 32 := Scalar.remsi v766 c32_i32_614
  let c1_i32_619 : BitVec 32 := 1#32
  let v768 : BitVec 32 := Scalar.muli v767 c1_i32_619
  let v769 : BitVec 32 := Scalar.addi c0_i32_620 v768
  v769.toNat
def k0_dev52 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_625 : BitVec 32 := 21#32
  let v778 : BitVec 32 := Scalar.addi v2 c21_i32_625
  let c32_i32_626 : BitVec 32 := 32#32
  let v779 : BitVec 32 := Scalar.remsi v778 c32_i32_626
  let c1_i32_631 : BitVec 32 := 1#32
  let v780 : BitVec 32 := Scalar.muli v779 c1_i32_631
  let v781 : BitVec 32 := Scalar.addi c0_i32_632 v780
  v781.toNat
def k0_dev53 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_637 : BitVec 32 := 22#32
  let v790 : BitVec 32 := Scalar.addi v2 c22_i32_637
  let c32_i32_638 : BitVec 32 := 32#32
  let v791 : BitVec 32 := Scalar.remsi v790 c32_i32_638
  let c1_i32_643 : BitVec 32 := 1#32
  let v792 : BitVec 32 := Scalar.muli v791 c1_i32_643
  let v793 : BitVec 32 := Scalar.addi c0_i32_644 v792
  v793.toNat
def k0_dev54 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_649 : BitVec 32 := 23#32
  let v802 : BitVec 32 := Scalar.addi v2 c23_i32_649
  let c32_i32_650 : BitVec 32 := 32#32
  let v803 : BitVec 32 := Scalar.remsi v802 c32_i32_650
  let c1_i32_655 : BitVec 32 := 1#32
  let v804 : BitVec 32 := Scalar.muli v803 c1_i32_655
  let v805 : BitVec 32 := Scalar.addi c0_i32_656 v804
  v805.toNat
def k0_dev55 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_661 : BitVec 32 := 24#32
  let v814 : BitVec 32 := Scalar.addi v2 c24_i32_661
  let c32_i32_662 : BitVec 32 := 32#32
  let v815 : BitVec 32 := Scalar.remsi v814 c32_i32_662
  let c1_i32_667 : BitVec 32 := 1#32
  let v816 : BitVec 32 := Scalar.muli v815 c1_i32_667
  let v817 : BitVec 32 := Scalar.addi c0_i32_668 v816
  v817.toNat
def k0_dev56 (d0 : Dev nD) : Nat :=
  let c0_i32_680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_673 : BitVec 32 := 25#32
  let v826 : BitVec 32 := Scalar.addi v2 c25_i32_673
  let c32_i32_674 : BitVec 32 := 32#32
  let v827 : BitVec 32 := Scalar.remsi v826 c32_i32_674
  let c1_i32_679 : BitVec 32 := 1#32
  let v828 : BitVec 32 := Scalar.muli v827 c1_i32_679
  let v829 : BitVec 32 := Scalar.addi c0_i32_680 v828
  v829.toNat
def k0_dev57 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_685 : BitVec 32 := 26#32
  let v838 : BitVec 32 := Scalar.addi v2 c26_i32_685
  let c32_i32_686 : BitVec 32 := 32#32
  let v839 : BitVec 32 := Scalar.remsi v838 c32_i32_686
  let c1_i32_691 : BitVec 32 := 1#32
  let v840 : BitVec 32 := Scalar.muli v839 c1_i32_691
  let v841 : BitVec 32 := Scalar.addi c0_i32_692 v840
  v841.toNat
def k0_dev58 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_697 : BitVec 32 := 27#32
  let v850 : BitVec 32 := Scalar.addi v2 c27_i32_697
  let c32_i32_698 : BitVec 32 := 32#32
  let v851 : BitVec 32 := Scalar.remsi v850 c32_i32_698
  let c1_i32_703 : BitVec 32 := 1#32
  let v852 : BitVec 32 := Scalar.muli v851 c1_i32_703
  let v853 : BitVec 32 := Scalar.addi c0_i32_704 v852
  v853.toNat
def k0_dev59 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_709 : BitVec 32 := 28#32
  let v862 : BitVec 32 := Scalar.addi v2 c28_i32_709
  let c32_i32_710 : BitVec 32 := 32#32
  let v863 : BitVec 32 := Scalar.remsi v862 c32_i32_710
  let c1_i32_715 : BitVec 32 := 1#32
  let v864 : BitVec 32 := Scalar.muli v863 c1_i32_715
  let v865 : BitVec 32 := Scalar.addi c0_i32_716 v864
  v865.toNat
def k0_dev60 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_721 : BitVec 32 := 29#32
  let v874 : BitVec 32 := Scalar.addi v2 c29_i32_721
  let c32_i32_722 : BitVec 32 := 32#32
  let v875 : BitVec 32 := Scalar.remsi v874 c32_i32_722
  let c1_i32_727 : BitVec 32 := 1#32
  let v876 : BitVec 32 := Scalar.muli v875 c1_i32_727
  let v877 : BitVec 32 := Scalar.addi c0_i32_728 v876
  v877.toNat
def k0_dev61 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_733 : BitVec 32 := 30#32
  let v886 : BitVec 32 := Scalar.addi v2 c30_i32_733
  let c32_i32_734 : BitVec 32 := 32#32
  let v887 : BitVec 32 := Scalar.remsi v886 c32_i32_734
  let c1_i32_739 : BitVec 32 := 1#32
  let v888 : BitVec 32 := Scalar.muli v887 c1_i32_739
  let v889 : BitVec 32 := Scalar.addi c0_i32_740 v888
  v889.toNat
def k0_dev62 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_745 : BitVec 32 := 31#32
  let v898 : BitVec 32 := Scalar.addi v2 c31_i32_745
  let c32_i32_746 : BitVec 32 := 32#32
  let v899 : BitVec 32 := Scalar.remsi v898 c32_i32_746
  let c1_i32_751 : BitVec 32 := 1#32
  let v900 : BitVec 32 := Scalar.muli v899 c1_i32_751
  let v901 : BitVec 32 := Scalar.addi c0_i32_752 v900
  v901.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1160 : BitVec 32 := 16#32
  let v1251 : BitVec 32 := Scalar.muli v2 c16_i32_1160
  let v1252 : Index := Scalar.indexCast v1251
  let c0_1161 : Index := 0#32
  ![v1252.toNat, 0]
def k0_dev63 (d0 : Dev nD) : Nat :=
  let c0_i32_1176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1170 : BitVec 32 := 1#32
  let v1266 : BitVec 32 := Scalar.addi v2 c1_i32_1170
  let c32_i32_1171 : BitVec 32 := 32#32
  let v1267 : BitVec 32 := Scalar.remsi v1266 c32_i32_1171
  let c1_i32_1175 : BitVec 32 := 1#32
  let v1268 : BitVec 32 := Scalar.muli v1267 c1_i32_1175
  let v1269 : BitVec 32 := Scalar.addi c0_i32_1176 v1268
  v1269.toNat
def k0_dev64 (d0 : Dev nD) : Nat :=
  let c0_i32_1185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1179 : BitVec 32 := 2#32
  let v1276 : BitVec 32 := Scalar.addi v2 c2_i32_1179
  let c32_i32_1180 : BitVec 32 := 32#32
  let v1277 : BitVec 32 := Scalar.remsi v1276 c32_i32_1180
  let c1_i32_1184 : BitVec 32 := 1#32
  let v1278 : BitVec 32 := Scalar.muli v1277 c1_i32_1184
  let v1279 : BitVec 32 := Scalar.addi c0_i32_1185 v1278
  v1279.toNat
def k0_dev65 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1188 : BitVec 32 := 3#32
  let v1286 : BitVec 32 := Scalar.addi v2 c3_i32_1188
  let c32_i32_1189 : BitVec 32 := 32#32
  let v1287 : BitVec 32 := Scalar.remsi v1286 c32_i32_1189
  let c1_i32_1193 : BitVec 32 := 1#32
  let v1288 : BitVec 32 := Scalar.muli v1287 c1_i32_1193
  let v1289 : BitVec 32 := Scalar.addi c0_i32_1194 v1288
  v1289.toNat
def k0_dev66 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1197 : BitVec 32 := 4#32
  let v1296 : BitVec 32 := Scalar.addi v2 c4_i32_1197
  let c32_i32_1198 : BitVec 32 := 32#32
  let v1297 : BitVec 32 := Scalar.remsi v1296 c32_i32_1198
  let c1_i32_1202 : BitVec 32 := 1#32
  let v1298 : BitVec 32 := Scalar.muli v1297 c1_i32_1202
  let v1299 : BitVec 32 := Scalar.addi c0_i32_1203 v1298
  v1299.toNat
def k0_dev67 (d0 : Dev nD) : Nat :=
  let c0_i32_1212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1206 : BitVec 32 := 5#32
  let v1306 : BitVec 32 := Scalar.addi v2 c5_i32_1206
  let c32_i32_1207 : BitVec 32 := 32#32
  let v1307 : BitVec 32 := Scalar.remsi v1306 c32_i32_1207
  let c1_i32_1211 : BitVec 32 := 1#32
  let v1308 : BitVec 32 := Scalar.muli v1307 c1_i32_1211
  let v1309 : BitVec 32 := Scalar.addi c0_i32_1212 v1308
  v1309.toNat
def k0_dev68 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1215 : BitVec 32 := 6#32
  let v1316 : BitVec 32 := Scalar.addi v2 c6_i32_1215
  let c32_i32_1216 : BitVec 32 := 32#32
  let v1317 : BitVec 32 := Scalar.remsi v1316 c32_i32_1216
  let c1_i32_1220 : BitVec 32 := 1#32
  let v1318 : BitVec 32 := Scalar.muli v1317 c1_i32_1220
  let v1319 : BitVec 32 := Scalar.addi c0_i32_1221 v1318
  v1319.toNat
def k0_dev69 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1224 : BitVec 32 := 7#32
  let v1326 : BitVec 32 := Scalar.addi v2 c7_i32_1224
  let c32_i32_1225 : BitVec 32 := 32#32
  let v1327 : BitVec 32 := Scalar.remsi v1326 c32_i32_1225
  let c1_i32_1229 : BitVec 32 := 1#32
  let v1328 : BitVec 32 := Scalar.muli v1327 c1_i32_1229
  let v1329 : BitVec 32 := Scalar.addi c0_i32_1230 v1328
  v1329.toNat
def k0_dev70 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1233 : BitVec 32 := 8#32
  let v1336 : BitVec 32 := Scalar.addi v2 c8_i32_1233
  let c32_i32_1234 : BitVec 32 := 32#32
  let v1337 : BitVec 32 := Scalar.remsi v1336 c32_i32_1234
  let c1_i32_1238 : BitVec 32 := 1#32
  let v1338 : BitVec 32 := Scalar.muli v1337 c1_i32_1238
  let v1339 : BitVec 32 := Scalar.addi c0_i32_1239 v1338
  v1339.toNat
def k0_dev71 (d0 : Dev nD) : Nat :=
  let c0_i32_1248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1242 : BitVec 32 := 9#32
  let v1346 : BitVec 32 := Scalar.addi v2 c9_i32_1242
  let c32_i32_1243 : BitVec 32 := 32#32
  let v1347 : BitVec 32 := Scalar.remsi v1346 c32_i32_1243
  let c1_i32_1247 : BitVec 32 := 1#32
  let v1348 : BitVec 32 := Scalar.muli v1347 c1_i32_1247
  let v1349 : BitVec 32 := Scalar.addi c0_i32_1248 v1348
  v1349.toNat
def k0_dev72 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1251 : BitVec 32 := 10#32
  let v1356 : BitVec 32 := Scalar.addi v2 c10_i32_1251
  let c32_i32_1252 : BitVec 32 := 32#32
  let v1357 : BitVec 32 := Scalar.remsi v1356 c32_i32_1252
  let c1_i32_1256 : BitVec 32 := 1#32
  let v1358 : BitVec 32 := Scalar.muli v1357 c1_i32_1256
  let v1359 : BitVec 32 := Scalar.addi c0_i32_1257 v1358
  v1359.toNat
def k0_dev73 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1260 : BitVec 32 := 11#32
  let v1366 : BitVec 32 := Scalar.addi v2 c11_i32_1260
  let c32_i32_1261 : BitVec 32 := 32#32
  let v1367 : BitVec 32 := Scalar.remsi v1366 c32_i32_1261
  let c1_i32_1265 : BitVec 32 := 1#32
  let v1368 : BitVec 32 := Scalar.muli v1367 c1_i32_1265
  let v1369 : BitVec 32 := Scalar.addi c0_i32_1266 v1368
  v1369.toNat
def k0_dev74 (d0 : Dev nD) : Nat :=
  let c0_i32_1275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1269 : BitVec 32 := 12#32
  let v1376 : BitVec 32 := Scalar.addi v2 c12_i32_1269
  let c32_i32_1270 : BitVec 32 := 32#32
  let v1377 : BitVec 32 := Scalar.remsi v1376 c32_i32_1270
  let c1_i32_1274 : BitVec 32 := 1#32
  let v1378 : BitVec 32 := Scalar.muli v1377 c1_i32_1274
  let v1379 : BitVec 32 := Scalar.addi c0_i32_1275 v1378
  v1379.toNat
def k0_dev75 (d0 : Dev nD) : Nat :=
  let c0_i32_1284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1278 : BitVec 32 := 13#32
  let v1386 : BitVec 32 := Scalar.addi v2 c13_i32_1278
  let c32_i32_1279 : BitVec 32 := 32#32
  let v1387 : BitVec 32 := Scalar.remsi v1386 c32_i32_1279
  let c1_i32_1283 : BitVec 32 := 1#32
  let v1388 : BitVec 32 := Scalar.muli v1387 c1_i32_1283
  let v1389 : BitVec 32 := Scalar.addi c0_i32_1284 v1388
  v1389.toNat
def k0_dev76 (d0 : Dev nD) : Nat :=
  let c0_i32_1293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1287 : BitVec 32 := 14#32
  let v1396 : BitVec 32 := Scalar.addi v2 c14_i32_1287
  let c32_i32_1288 : BitVec 32 := 32#32
  let v1397 : BitVec 32 := Scalar.remsi v1396 c32_i32_1288
  let c1_i32_1292 : BitVec 32 := 1#32
  let v1398 : BitVec 32 := Scalar.muli v1397 c1_i32_1292
  let v1399 : BitVec 32 := Scalar.addi c0_i32_1293 v1398
  v1399.toNat
def k0_dev77 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1296 : BitVec 32 := 15#32
  let v1406 : BitVec 32 := Scalar.addi v2 c15_i32_1296
  let c32_i32_1297 : BitVec 32 := 32#32
  let v1407 : BitVec 32 := Scalar.remsi v1406 c32_i32_1297
  let c1_i32_1301 : BitVec 32 := 1#32
  let v1408 : BitVec 32 := Scalar.muli v1407 c1_i32_1301
  let v1409 : BitVec 32 := Scalar.addi c0_i32_1302 v1408
  v1409.toNat
def k0_dev78 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1305 : BitVec 32 := 16#32
  let v1416 : BitVec 32 := Scalar.addi v2 c16_i32_1305
  let c32_i32_1306 : BitVec 32 := 32#32
  let v1417 : BitVec 32 := Scalar.remsi v1416 c32_i32_1306
  let c1_i32_1310 : BitVec 32 := 1#32
  let v1418 : BitVec 32 := Scalar.muli v1417 c1_i32_1310
  let v1419 : BitVec 32 := Scalar.addi c0_i32_1311 v1418
  v1419.toNat
def k0_dev79 (d0 : Dev nD) : Nat :=
  let c0_i32_1320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1314 : BitVec 32 := 17#32
  let v1426 : BitVec 32 := Scalar.addi v2 c17_i32_1314
  let c32_i32_1315 : BitVec 32 := 32#32
  let v1427 : BitVec 32 := Scalar.remsi v1426 c32_i32_1315
  let c1_i32_1319 : BitVec 32 := 1#32
  let v1428 : BitVec 32 := Scalar.muli v1427 c1_i32_1319
  let v1429 : BitVec 32 := Scalar.addi c0_i32_1320 v1428
  v1429.toNat
def k0_dev80 (d0 : Dev nD) : Nat :=
  let c0_i32_1329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1323 : BitVec 32 := 18#32
  let v1436 : BitVec 32 := Scalar.addi v2 c18_i32_1323
  let c32_i32_1324 : BitVec 32 := 32#32
  let v1437 : BitVec 32 := Scalar.remsi v1436 c32_i32_1324
  let c1_i32_1328 : BitVec 32 := 1#32
  let v1438 : BitVec 32 := Scalar.muli v1437 c1_i32_1328
  let v1439 : BitVec 32 := Scalar.addi c0_i32_1329 v1438
  v1439.toNat
def k0_dev81 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1332 : BitVec 32 := 19#32
  let v1446 : BitVec 32 := Scalar.addi v2 c19_i32_1332
  let c32_i32_1333 : BitVec 32 := 32#32
  let v1447 : BitVec 32 := Scalar.remsi v1446 c32_i32_1333
  let c1_i32_1337 : BitVec 32 := 1#32
  let v1448 : BitVec 32 := Scalar.muli v1447 c1_i32_1337
  let v1449 : BitVec 32 := Scalar.addi c0_i32_1338 v1448
  v1449.toNat
def k0_dev82 (d0 : Dev nD) : Nat :=
  let c0_i32_1347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1341 : BitVec 32 := 20#32
  let v1456 : BitVec 32 := Scalar.addi v2 c20_i32_1341
  let c32_i32_1342 : BitVec 32 := 32#32
  let v1457 : BitVec 32 := Scalar.remsi v1456 c32_i32_1342
  let c1_i32_1346 : BitVec 32 := 1#32
  let v1458 : BitVec 32 := Scalar.muli v1457 c1_i32_1346
  let v1459 : BitVec 32 := Scalar.addi c0_i32_1347 v1458
  v1459.toNat
def k0_dev83 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1350 : BitVec 32 := 21#32
  let v1466 : BitVec 32 := Scalar.addi v2 c21_i32_1350
  let c32_i32_1351 : BitVec 32 := 32#32
  let v1467 : BitVec 32 := Scalar.remsi v1466 c32_i32_1351
  let c1_i32_1355 : BitVec 32 := 1#32
  let v1468 : BitVec 32 := Scalar.muli v1467 c1_i32_1355
  let v1469 : BitVec 32 := Scalar.addi c0_i32_1356 v1468
  v1469.toNat
def k0_dev84 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1359 : BitVec 32 := 22#32
  let v1476 : BitVec 32 := Scalar.addi v2 c22_i32_1359
  let c32_i32_1360 : BitVec 32 := 32#32
  let v1477 : BitVec 32 := Scalar.remsi v1476 c32_i32_1360
  let c1_i32_1364 : BitVec 32 := 1#32
  let v1478 : BitVec 32 := Scalar.muli v1477 c1_i32_1364
  let v1479 : BitVec 32 := Scalar.addi c0_i32_1365 v1478
  v1479.toNat
def k0_dev85 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1368 : BitVec 32 := 23#32
  let v1486 : BitVec 32 := Scalar.addi v2 c23_i32_1368
  let c32_i32_1369 : BitVec 32 := 32#32
  let v1487 : BitVec 32 := Scalar.remsi v1486 c32_i32_1369
  let c1_i32_1373 : BitVec 32 := 1#32
  let v1488 : BitVec 32 := Scalar.muli v1487 c1_i32_1373
  let v1489 : BitVec 32 := Scalar.addi c0_i32_1374 v1488
  v1489.toNat
def k0_dev86 (d0 : Dev nD) : Nat :=
  let c0_i32_1383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1377 : BitVec 32 := 24#32
  let v1496 : BitVec 32 := Scalar.addi v2 c24_i32_1377
  let c32_i32_1378 : BitVec 32 := 32#32
  let v1497 : BitVec 32 := Scalar.remsi v1496 c32_i32_1378
  let c1_i32_1382 : BitVec 32 := 1#32
  let v1498 : BitVec 32 := Scalar.muli v1497 c1_i32_1382
  let v1499 : BitVec 32 := Scalar.addi c0_i32_1383 v1498
  v1499.toNat
def k0_dev87 (d0 : Dev nD) : Nat :=
  let c0_i32_1392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1386 : BitVec 32 := 25#32
  let v1506 : BitVec 32 := Scalar.addi v2 c25_i32_1386
  let c32_i32_1387 : BitVec 32 := 32#32
  let v1507 : BitVec 32 := Scalar.remsi v1506 c32_i32_1387
  let c1_i32_1391 : BitVec 32 := 1#32
  let v1508 : BitVec 32 := Scalar.muli v1507 c1_i32_1391
  let v1509 : BitVec 32 := Scalar.addi c0_i32_1392 v1508
  v1509.toNat
def k0_dev88 (d0 : Dev nD) : Nat :=
  let c0_i32_1401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1395 : BitVec 32 := 26#32
  let v1516 : BitVec 32 := Scalar.addi v2 c26_i32_1395
  let c32_i32_1396 : BitVec 32 := 32#32
  let v1517 : BitVec 32 := Scalar.remsi v1516 c32_i32_1396
  let c1_i32_1400 : BitVec 32 := 1#32
  let v1518 : BitVec 32 := Scalar.muli v1517 c1_i32_1400
  let v1519 : BitVec 32 := Scalar.addi c0_i32_1401 v1518
  v1519.toNat
def k0_dev89 (d0 : Dev nD) : Nat :=
  let c0_i32_1410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1404 : BitVec 32 := 27#32
  let v1526 : BitVec 32 := Scalar.addi v2 c27_i32_1404
  let c32_i32_1405 : BitVec 32 := 32#32
  let v1527 : BitVec 32 := Scalar.remsi v1526 c32_i32_1405
  let c1_i32_1409 : BitVec 32 := 1#32
  let v1528 : BitVec 32 := Scalar.muli v1527 c1_i32_1409
  let v1529 : BitVec 32 := Scalar.addi c0_i32_1410 v1528
  v1529.toNat
def k0_dev90 (d0 : Dev nD) : Nat :=
  let c0_i32_1419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1413 : BitVec 32 := 28#32
  let v1536 : BitVec 32 := Scalar.addi v2 c28_i32_1413
  let c32_i32_1414 : BitVec 32 := 32#32
  let v1537 : BitVec 32 := Scalar.remsi v1536 c32_i32_1414
  let c1_i32_1418 : BitVec 32 := 1#32
  let v1538 : BitVec 32 := Scalar.muli v1537 c1_i32_1418
  let v1539 : BitVec 32 := Scalar.addi c0_i32_1419 v1538
  v1539.toNat
def k0_dev91 (d0 : Dev nD) : Nat :=
  let c0_i32_1428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1422 : BitVec 32 := 29#32
  let v1546 : BitVec 32 := Scalar.addi v2 c29_i32_1422
  let c32_i32_1423 : BitVec 32 := 32#32
  let v1547 : BitVec 32 := Scalar.remsi v1546 c32_i32_1423
  let c1_i32_1427 : BitVec 32 := 1#32
  let v1548 : BitVec 32 := Scalar.muli v1547 c1_i32_1427
  let v1549 : BitVec 32 := Scalar.addi c0_i32_1428 v1548
  v1549.toNat
def k0_dev92 (d0 : Dev nD) : Nat :=
  let c0_i32_1437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1431 : BitVec 32 := 30#32
  let v1556 : BitVec 32 := Scalar.addi v2 c30_i32_1431
  let c32_i32_1432 : BitVec 32 := 32#32
  let v1557 : BitVec 32 := Scalar.remsi v1556 c32_i32_1432
  let c1_i32_1436 : BitVec 32 := 1#32
  let v1558 : BitVec 32 := Scalar.muli v1557 c1_i32_1436
  let v1559 : BitVec 32 := Scalar.addi c0_i32_1437 v1558
  v1559.toNat
def k0_dev93 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1440 : BitVec 32 := 31#32
  let v1566 : BitVec 32 := Scalar.addi v2 c31_i32_1440
  let c32_i32_1441 : BitVec 32 := 32#32
  let v1567 : BitVec 32 := Scalar.remsi v1566 c32_i32_1441
  let c1_i32_1445 : BitVec 32 := 1#32
  let v1568 : BitVec 32 := Scalar.muli v1567 c1_i32_1445
  let v1569 : BitVec 32 := Scalar.addi c0_i32_1446 v1568
  v1569.toNat
def k0_off3 (d0 : Dev nD) (c1_i32_1450 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1449 : BitVec 32 := 32#32
  let v1576 : BitVec 32 := Scalar.addi v2 c32_i32_1449
  let v1577 : BitVec 32 := Scalar.subi v1576 c1_i32_1450
  let c32_i32_1451 : BitVec 32 := 32#32
  let v1578 : BitVec 32 := Scalar.remsi v1577 c32_i32_1451
  let c16_i32_1462 : BitVec 32 := 16#32
  let v1587 : BitVec 32 := Scalar.muli v1578 c16_i32_1462
  let v1588 : Index := Scalar.indexCast v1587
  let c0_1463 : Index := 0#32
  ![v1588.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 147
  | .vmem => 0
  | .smem => 0
  | _ => 0

abbrev hbmTy0_0 (i : Nat) : BufTy := match i % 128 with
  | 0 => ⟨S2x256x512, .bf16⟩
  | 1 => ⟨S512x8192, .bf16⟩
  | 2 => ⟨S2x256x128x64, .bf16⟩
  | 3 => ⟨S2x256x128x64, .bf16⟩
  | 4 => ⟨S8192x512, .bf16⟩
  | 5 => ⟨S2x256x512, .f32⟩
  | 6 => ⟨S512x8192, .f32⟩
  | 7 => ⟨S2x256x128x64, .f32⟩
  | 8 => ⟨S2x256x128x64, .f32⟩
  | 9 => ⟨S8192x512, .f32⟩
  | 10 => ⟨S2x256x8192, .f32⟩
  | 11 => ⟨S2x256x8192, .bf16⟩
  | 12 => ⟨S2x256x8192, .f32⟩
  | 13 => ⟨S2x256x128x64, .f32⟩
  | 14 => ⟨S256, .i32⟩
  | 15 => ⟨S_, .i32⟩
  | 16 => ⟨S_, .i32⟩
  | 17 => ⟨S256, .i32⟩
  | 18 => ⟨S256, .i32⟩
  | 19 => ⟨S256, .i32⟩
  | 20 => ⟨S_, .i32⟩
  | 21 => ⟨S256, .i32⟩
  | 22 => ⟨S256, .i1⟩
  | 23 => ⟨S256, .i32⟩
  | 24 => ⟨S256, .i32⟩
  | 25 => ⟨S_, .i32⟩
  | 26 => ⟨S256, .i32⟩
  | 27 => ⟨S256, .i1⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S256, .i32⟩
  | 35 => ⟨S_, .i32⟩
  | 36 => ⟨S_, .i32⟩
  | 37 => ⟨S256, .i32⟩
  | 38 => ⟨S256, .i32⟩
  | 39 => ⟨S256, .i32⟩
  | 40 => ⟨S_, .i32⟩
  | 41 => ⟨S256, .i32⟩
  | 42 => ⟨S256, .i1⟩
  | 43 => ⟨S256, .i32⟩
  | 44 => ⟨S256, .i32⟩
  | 45 => ⟨S_, .i32⟩
  | 46 => ⟨S256, .i32⟩
  | 47 => ⟨S256, .i1⟩
  | 48 => ⟨S256, .i1⟩
  | 49 => ⟨S_, .i32⟩
  | 50 => ⟨S256, .i32⟩
  | 51 => ⟨S256, .i32⟩
  | 52 => ⟨S256, .i32⟩
  | 53 => ⟨S1x256, .i32⟩
  | 54 => ⟨S256x256, .i32⟩
  | 55 => ⟨S256x256, .i32⟩
  | 56 => ⟨S256x256, .i1⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S1x256, .i32⟩
  | 64 => ⟨S1x256, .i32⟩
  | 65 => ⟨S_, .i32⟩
  | 66 => ⟨S1x256, .i32⟩
  | 67 => ⟨S1x256, .i1⟩
  | 68 => ⟨S_, .i32⟩
  | 69 => ⟨S1x256, .i32⟩
  | 70 => ⟨S1x256, .i1⟩
  | 71 => ⟨S_, .i32⟩
  | 72 => ⟨S_, .i1⟩
  | 73 => ⟨S1x256, .i1⟩
  | 74 => ⟨S1x256, .i1⟩
  | 75 => ⟨S1x256, .i1⟩
  | 76 => ⟨S1x256, .i32⟩
  | 77 => ⟨S1x256, .i32⟩
  | 78 => ⟨S1x256, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S256x1, .i32⟩
  | 86 => ⟨S256x1, .i32⟩
  | 87 => ⟨S_, .i32⟩
  | 88 => ⟨S256x1, .i32⟩
  | 89 => ⟨S256x1, .i1⟩
  | 90 => ⟨S_, .i32⟩
  | 91 => ⟨S256x1, .i32⟩
  | 92 => ⟨S256x1, .i1⟩
  | 93 => ⟨S_, .i32⟩
  | 94 => ⟨S_, .i1⟩
  | 95 => ⟨S256x1, .i1⟩
  | 96 => ⟨S256x1, .i1⟩
  | 97 => ⟨S256x1, .i1⟩
  | 98 => ⟨S256x1, .i32⟩
  | 99 => ⟨S256x1, .i32⟩
  | 100 => ⟨S256x1, .i32⟩
  | 101 => ⟨S256x256, .i32⟩
  | 102 => ⟨S256x256, .i32⟩
  | 103 => ⟨S256x256, .i1⟩
  | 104 => ⟨S256x256, .i1⟩
  | 105 => ⟨S2x128x256x256, .f32⟩
  | 106 => ⟨S2x128x256x256, .bf16⟩
  | 107 => ⟨S2x128x256x256, .f32⟩
  | 108 => ⟨S_, .f32⟩
  | 109 => ⟨S2x128x256x256, .f32⟩
  | 110 => ⟨S2x128x256x256, .f32⟩
  | 111 => ⟨S1x1x256x256, .i1⟩
  | 112 => ⟨S_, .f32⟩
  | 113 => ⟨S_, .f32⟩
  | 114 => ⟨S2x128x256x256, .i1⟩
  | 115 => ⟨S2x128x256x256, .f32⟩
  | 116 => ⟨S2x128x256x256, .f32⟩
  | 117 => ⟨S_, .f32⟩
  | 118 => ⟨S2x128x256, .f32⟩
  | 119 => ⟨S2x128x256x1, .f32⟩
  | 120 => ⟨S2x128x256x256, .f32⟩
  | 121 => ⟨S2x128x256x256, .f32⟩
  | 122 => ⟨S2x128x256x256, .f32⟩
  | 123 => ⟨S_, .i1⟩
  | 124 => ⟨S256, .i1⟩
  | 125 => ⟨S1x1x256x1, .i1⟩
  | 126 => ⟨S_, .f32⟩
  | 127 => ⟨S2x128x256, .f32⟩
  | _ => ⟨S2x256x512, .bf16⟩

abbrev hbmTy0_1 (i : Nat) : BufTy := match i % 128 with
  | 0 => ⟨S2x128x256x1, .f32⟩
  | 1 => ⟨S_, .f32⟩
  | 2 => ⟨S_, .f32⟩
  | 3 => ⟨S2x128x256x1, .i1⟩
  | 4 => ⟨S2x128x256x1, .f32⟩
  | 5 => ⟨S2x128x256x1, .f32⟩
  | 6 => ⟨S2x128x256x256, .f32⟩
  | 7 => ⟨S2x128x256x256, .f32⟩
  | 8 => ⟨S1x1x256x1, .i1⟩
  | 9 => ⟨S_, .f32⟩
  | 10 => ⟨S_, .f32⟩
  | 11 => ⟨S2x128x256x256, .i1⟩
  | 12 => ⟨S2x128x256x256, .f32⟩
  | 13 => ⟨S2x128x256x256, .f32⟩
  | 14 => ⟨S2x128x64x256, .f32⟩
  | 15 => ⟨S2x256x128x64, .f32⟩
  | 16 => ⟨S2x256x8192, .f32⟩
  | 17 => ⟨S2x256x512, .f32⟩
  | 18 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_call2_v0 : Ref sig .tc := ⟨.hbm, 58, rfl⟩
abbrev main_call2_c : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_v5 : Ref sig .tc := ⟨.hbm, 66, rfl⟩
abbrev main_call2_v6 : Ref sig .tc := ⟨.hbm, 67, rfl⟩
abbrev main_call2_c_2 : Ref sig .tc := ⟨.hbm, 68, rfl⟩
abbrev main_call2_v7 : Ref sig .tc := ⟨.hbm, 69, rfl⟩
abbrev main_call2_v8 : Ref sig .tc := ⟨.hbm, 70, rfl⟩
abbrev main_call2_c_3 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_v18 : Ref sig .tc := ⟨.hbm, 78, rfl⟩
abbrev main_c_2 : Ref sig .tc := ⟨.hbm, 79, rfl⟩
abbrev main_call3_v0 : Ref sig .tc := ⟨.hbm, 80, rfl⟩
abbrev main_call3_c : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_c_1 : Ref sig .tc := ⟨.hbm, 87, rfl⟩
abbrev main_call3_v5 : Ref sig .tc := ⟨.hbm, 88, rfl⟩
abbrev main_call3_v6 : Ref sig .tc := ⟨.hbm, 89, rfl⟩
abbrev main_call3_c_2 : Ref sig .tc := ⟨.hbm, 90, rfl⟩
abbrev main_call3_v7 : Ref sig .tc := ⟨.hbm, 91, rfl⟩
abbrev main_call3_v8 : Ref sig .tc := ⟨.hbm, 92, rfl⟩
abbrev main_call3_c_3 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_v26 : Ref sig .tc := ⟨.hbm, 107, rfl⟩
abbrev main_cst : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_cst_3 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v30 : Ref sig .tc := ⟨.hbm, 116, rfl⟩
abbrev main_cst_4 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_c_5 : Ref sig .tc := ⟨.hbm, 123, rfl⟩
abbrev main_v36 : Ref sig .tc := ⟨.hbm, 124, rfl⟩
abbrev main_v37 : Ref sig .tc := ⟨.hbm, 125, rfl⟩
abbrev main_cst_6 : Ref sig .tc := ⟨.hbm, 126, rfl⟩
abbrev main_v38 : Ref sig .tc := ⟨.hbm, 127, rfl⟩
abbrev main_v39 : Ref sig .tc := ⟨.hbm, 128, rfl⟩
abbrev main_cst_7 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_cst_8 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩

abbrev nD : Nat := 1
abbrev τ : Topo := Topo.v7x

variable {F : FTy → Type} [FloatOps F]
-- ==== Proof.Loop.lean ====
/-
  The kernel's body as a program of loops. The kernel is printed with its loops over the 31 other devices unrolled: here the same program is written
  with each loop's step stated once at an index `j : Fin 31` (step `j` of a loop is the kernel's iteration `j + 1`), and `cc0_body_eq` says the two are
  the same program.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Run

open Idealize.ShloMosaic Idealize.SL.Sem
open Cert.KernelIdeal.Gen

variable {F : FTy → Type} [FloatOps F] [Named F]

/-- The loop indices, in order. -/
def all31 : List (Fin 31) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩, ⟨15, by decide⟩,
   ⟨16, by decide⟩, ⟨17, by decide⟩, ⟨18, by decide⟩, ⟨19, by decide⟩, ⟨20, by decide⟩, ⟨21, by decide⟩, ⟨22, by decide⟩, ⟨23, by decide⟩,
   ⟨24, by decide⟩, ⟨25, by decide⟩, ⟨26, by decide⟩, ⟨27, by decide⟩, ⟨28, by decide⟩, ⟨29, by decide⟩, ⟨30, by decide⟩]

/-- One step after another, over a list of indices. -/
def each {E : Type → Type} (f : Fin 31 → Prog E PUnit) : List (Fin 31) → Prog E PUnit
  | [] => .ret ⟨⟩
  | j :: l => (f j).bind fun _ => each f l

/-- The word of iteration `j + 1`. -/
abbrev wordOf (j : Fin 31) : BitVec 32 := BitVec.ofNat 32 (1 + j.val)

/-- The device an iteration sends to, as the kernel computes it. -/
def devTo (d0 : Dev nD) (w : BitVec 32) : ℕ :=
  (Scalar.addi 0#32 (Scalar.muli (Scalar.remsi (Scalar.addi (Scalar.remsi (Scalar.divsi (Dev.word d0) 1#32) 32#32) w) 32#32) 1#32)).toNat

theorem devTo_eq : ∀ (d0 : Dev nD) (j : Fin 31), devTo d0 (wordOf j) = (d0.val + (1 + j.val)) % 32 := by decide +kernel

theorem devTo_lt (d0 : Dev nD) (j : Fin 31) : devTo d0 (wordOf j) < nD := by
  rw [devTo_eq]; exact Nat.mod_lt _ (by decide)

theorem slot_inb : ∀ (j : Fin 31) (a : Fin 3), (![j.val, 0, 0] : Fin 3 → ℕ) a + S1x16x512.size a ≤ S31x16x512.size a := by decide
theorem sem_inb : ∀ (j : Fin 31) (a : Fin 1), (![j.val] : Fin 1 → ℕ) a + S1.size a ≤ S31.size a := by decide
/-- Slot `j` of a 31-slot buffer. -/
abbrev slotRect (j : Fin 31) : Rect S31x16x512 := Rect.unit (s := S31x16x512) ![j.val, 0, 0] S1x16x512.size (slot_inb j)
theorem slot_packed : ∀ j : Fin 31, (slotRect j).PackedRows (EltTy.packing .bf16) := by decide
theorem slot_words : ∀ j : Fin 31, (slotRect j).WholeWords (EltTy.packing .bf16) := by decide

/-- Slot `j` of a 31-slot buffer, as the memref a copy names. -/
abbrev slot (m : Memref sig .tc .vmem S31x16x512 .bf16) (j : Fin 31) : Memref sig .tc .vmem S16x512 .bf16 :=
  (m.slice (slotRect j) (fun _ => rfl)).squeeze S16x512 squeezes_S1x16x512_S16x512
/-- Semaphore `j` of an array of 31. -/
abbrev semAt (s : DmaSems sig S31) (j : Fin 31) : DmaSem sig :=
  ((s.slice (Rect.unit (s := S31) ![j.val] S1.size (sem_inb j))).squeeze S_ squeezes_S1_S_).sem
/-- The barrier semaphore. -/
abbrev bar : Sem sig := (SemArray.scalar (sig.barrier 0 rfl) : Sems sig S_).sem

variable (arg0 : Memref sig .tc .vmem S512x512 .bf16) (harg0 : arg0.IsWhole) (arg1 : Memref sig .tc .vmem S512x256 .bf16) (harg1 : arg1.IsWhole)
variable (arg2 : Memref sig .tc .vmem S512x4x64 .bf16) (harg2 : arg2.IsWhole) (arg3 : Memref sig .tc .vmem S512x4x64 .bf16) (harg3 : arg3.IsWhole)
variable (arg4 : Memref sig .tc .vmem S256x512 .bf16) (harg4 : arg4.IsWhole) (arg5 : Memref sig .tc .vmem S512x512 .bf16) (harg5 : arg5.IsWhole)
variable (arg6 : Memref sig .tc .vmem S512x512 .bf16) (harg6 : arg6.IsWhole) (arg7 : Memref sig .tc .vmem S512x256 .bf16) (harg7 : arg7.IsWhole)
variable (arg8 : Memref sig .tc .vmem S31x16x512 .bf16) (harg8 : arg8.IsWhole) (arg9 : Memref sig .tc .vmem S31x16x512 .bf16) (harg9 : arg9.IsWhole)
variable (arg10 : Memref sig .tc .vmem S16x512 .bf16) (harg10 : arg10.IsWhole) (arg11 : Memref sig .tc .vmem S31x16x512 .bf16) (harg11 : arg11.IsWhole)
variable (arg12 arg13 arg14 arg15 : DmaSems sig S31)

/-- Iteration `j + 1` of the entry barrier: one unit to the device `j + 1` places ahead. -/
def stSignal (d0 : Dev nD) (j : Fin 31) : Prog (TpuEff nD τ sig (Elt F) Λ₀ .tc) PUnit :=
  semSignalWord (⟨devTo d0 (wordOf j), devTo_lt d0 j⟩ : Dev nD) bar 1#32

/-- The heads' loads of the keys and of the values. -/
abbrev headRect (h : ℕ) (hi : ∀ a, (![0, h, 0] : Fin 3 → ℕ) a + S512x1x64.size a ≤ S512x4x64.size a) : Rect S512x4x64 :=
  Rect.unit (s := S512x4x64) ![0, h, 0] S512x1x64.size hi

/-- The device's own attention block and its partial product. -/
def stAttend : Prog (TpuEff nD τ sig (Elt F) Λ₀ .tc) PUnit := do
  let x ← Prog.lift (.load arg0 (Rect.unit (s := S512x512) ![0, 0] S512x512.size inb_S512x512_S512x512_0_0).toLoadRect (View.loadsAt_vmem h_S512x512))
  let wq ← Prog.lift (.load arg1 (Rect.unit (s := S512x256) ![0, 0] S512x256.size inb_S512x256_S512x256_0_0).toLoadRect (View.loadsAt_vmem h_S512x256))
  let k0 ← Prog.lift (.load arg2 (headRect 0 inb_S512x4x64_S512x1x64_0_0_0).toLoadRect (View.loadsAt_vmem h_S512x1x64))
  let v0 ← Prog.lift (.load arg3 (headRect 0 inb_S512x4x64_S512x1x64_0_0_0).toLoadRect (View.loadsAt_vmem h_S512x1x64))
  let _ ← Prog.lift (.load arg7 (Rect.unit (s := S512x256) ![0, 0] S512x64.size inb_S512x256_S512x64_0_0).toLoadRect (View.loadsAt_vmem h_S512x64))
  Prog.lift (.store arg7 (Rect.unit (s := S512x256) ![0, 0] S512x64.size inb_S512x256_S512x64_0_0) (k0_pay8 (k0_pay6 v0) (k0_pay7 (k0_pay1 x wq) k0_pay2 k0_pay3 k0_pay4 k0)) Finset.univ (View.stores_vmem h_S512x64 (harg7.storeExact_slice rfl _ packedbf16_S512x256_S512x64_0_0) (fun _ => rfl)) (.inl rfl))
  let k1 ← Prog.lift (.load arg2 (headRect 1 inb_S512x4x64_S512x1x64_0_1_0).toLoadRect (View.loadsAt_vmem h_S512x1x64))
  let v1 ← Prog.lift (.load arg3 (headRect 1 inb_S512x4x64_S512x1x64_0_1_0).toLoadRect (View.loadsAt_vmem h_S512x1x64))
  let _ ← Prog.lift (.load arg7 (Rect.unit (s := S512x256) ![0, 64] S512x64.size inb_S512x256_S512x64_0_64).toLoadRect (View.loadsAt_vmem h_S512x64))
  Prog.lift (.store arg7 (Rect.unit (s := S512x256) ![0, 64] S512x64.size inb_S512x256_S512x64_0_64) (k0_pay9 (k0_pay1 x wq) (k0_pay5 k0_pay2 k0_pay3 k0_pay4) k1 v1) Finset.univ (View.stores_vmem h_S512x64 (harg7.storeExact_slice rfl _ packedbf16_S512x256_S512x64_0_64) (fun _ => rfl)) (.inl rfl))
  let k2 ← Prog.lift (.load arg2 (headRect 2 inb_S512x4x64_S512x1x64_0_2_0).toLoadRect (View.loadsAt_vmem h_S512x1x64))
  let v2 ← Prog.lift (.load arg3 (headRect 2 inb_S512x4x64_S512x1x64_0_2_0).toLoadRect (View.loadsAt_vmem h_S512x1x64))
  let _ ← Prog.lift (.load arg7 (Rect.unit (s := S512x256) ![0, 128] S512x64.size inb_S512x256_S512x64_0_128).toLoadRect (View.loadsAt_vmem h_S512x64))
  Prog.lift (.store arg7 (Rect.unit (s := S512x256) ![0, 128] S512x64.size inb_S512x256_S512x64_0_128) (k0_pay11 (k0_pay5 k0_pay2 k0_pay3 k0_pay4) (k0_pay10 (k0_pay1 x wq)) k2 v2) Finset.univ (View.stores_vmem h_S512x64 (harg7.storeExact_slice rfl _ packedbf16_S512x256_S512x64_0_128) (fun _ => rfl)) (.inl rfl))
  let k3 ← Prog.lift (.load arg2 (headRect 3 inb_S512x4x64_S512x1x64_0_3_0).toLoadRect (View.loadsAt_vmem h_S512x1x64))
  let v3 ← Prog.lift (.load arg3 (headRect 3 inb_S512x4x64_S512x1x64_0_3_0).toLoadRect (View.loadsAt_vmem h_S512x1x64))
  let _ ← Prog.lift (.load arg7 (Rect.unit (s := S512x256) ![0, 192] S512x64.size inb_S512x256_S512x64_0_192).toLoadRect (View.loadsAt_vmem h_S512x64))
  Prog.lift (.store arg7 (Rect.unit (s := S512x256) ![0, 192] S512x64.size inb_S512x256_S512x64_0_192) (k0_pay14 (k0_pay12 v3) (k0_pay13 (k0_pay1 x wq) (k0_pay5 k0_pay2 k0_pay3 k0_pay4) k3)) Finset.univ (View.stores_vmem h_S512x64 (harg7.storeExact_slice rfl _ packedbf16_S512x256_S512x64_0_192) (fun _ => rfl)) (.inl rfl))
  let ctx ← Prog.lift (.load arg7 (Rect.unit (s := S512x256) ![0, 0] S512x256.size inb_S512x256_S512x256_0_0).toLoadRect (View.loadsAt_vmem h_S512x256))
  let wo ← Prog.lift (.load arg4 (Rect.unit (s := S256x512) ![0, 0] S256x512.size inb_S256x512_S256x512_0_0).toLoadRect (View.loadsAt_vmem h_S256x512))
  let _ ← Prog.lift (.load arg6 (Rect.unit (s := S512x512) ![0, 0] S512x512.size inb_S512x512_S512x512_0_0).toLoadRect (View.loadsAt_vmem h_S512x512))
  Prog.lift (.store arg6 (Rect.unit (s := S512x512) ![0, 0] S512x512.size inb_S512x512_S512x512_0_0) (k0_pay15 ctx wo) Finset.univ (View.stores_vmem h_S512x512 (harg6.storeExact_slice rfl _ packedbf16_S512x512_S512x512_0_0) (fun _ => rfl)) (.inl rfl))

/-- Iteration `j + 1` of the packing: the rows of the device `j + 1` places ahead go to send slot `j`. -/
def stPack (d0 : Dev nD) (j : Fin 31) : Prog (TpuEff nD τ sig (Elt F) Λ₀ .tc) PUnit := do
  let r ← Prog.lift (.load arg6 (Rect.unit (s := S512x512) (k0_off1 d0 (wordOf j)) S16x512.size (k0_off1_inb d0 j)).toLoadRect (View.loadsAt_vmem h_S16x512))
  let _ ← Prog.lift (.load arg8 (slotRect j).toLoadRect (View.loadsAt_vmem h_S1x16x512))
  Prog.lift (.store arg8 (slotRect j) (k0_pay16 r) Finset.univ (View.stores_vmem h_S1x16x512 (harg8.storeExact_slice rfl _ (slot_packed j)) (fun _ => rfl)) (.inl rfl))

/-- Iteration `j + 1` of the first exchange. -/
def stSend1 (d0 : Dev nD) (j : Fin 31) : Prog (TpuEff nD τ sig (Elt F) Λ₀ .tc) PUnit :=
  Prog.lift (.enqueueDma (slot arg8 j) (.remote (Dev.tc (⟨devTo d0 (wordOf j), devTo_lt d0 j⟩ : Dev nD)) (slot arg9 j) (.dma (semAt arg12 j))) (.dma (semAt arg13 j))
    ((harg8.wordExact_slice rfl _ (slot_words j)).reshape _ _) ((harg9.wordExact_slice rfl _ (slot_words j)).reshape _ _) ⟨⟨rfl, Or.inl rfl⟩, trivial⟩)

/-- The wait for the block that lands in gather slot `j`. -/
def stRecv1 (j : Fin 31) : Prog (TpuEff nD τ sig (Elt F) Λ₀ .tc) PUnit :=
  Prog.lift (.waitDma2 (semAt arg13 j) (slot arg8 j) (slot arg9 j) ((harg8.wordExact_slice rfl _ (slot_words j)).reshape _ _) ((harg9.wordExact_slice rfl _ (slot_words j)).reshape _ _))

/-- The device's own rows, reduced: into the buffer the second exchange sends, and into the result. -/
def stReduce (d0 : Dev nD) : Prog (TpuEff nD τ sig (Elt F) Λ₀ .tc) PUnit := do
  let p ← Prog.lift (.load arg6 (Rect.unit (s := S512x512) (k0_off2 d0) S16x512.size (k0_off2_inb d0)).toLoadRect (View.loadsAt_vmem h_S16x512))
  let g ← Prog.lift (.load arg9 (Rect.unit (s := S31x16x512) ![0, 0, 0] S31x16x512.size inb_S31x16x512_S31x16x512_0_0_0).toLoadRect (View.loadsAt_vmem h_S31x16x512))
  let _ ← Prog.lift (.load arg10 (Rect.unit (s := S16x512) ![0, 0] S16x512.size inb_S16x512_S16x512_0_0).toLoadRect (View.loadsAt_vmem h_S16x512))
  Prog.lift (.store arg10 (Rect.unit (s := S16x512) ![0, 0] S16x512.size inb_S16x512_S16x512_0_0) (k0_pay48 p g) Finset.univ (View.stores_vmem h_S16x512 (harg10.storeExact_slice rfl _ packedbf16_S16x512_S16x512_0_0) (fun _ => rfl)) (.inl rfl))
  let _ ← Prog.lift (.load arg5 (Rect.unit (s := S512x512) (k0_off2 d0) S16x512.size (k0_off2_inb d0)).toLoadRect (View.loadsAt_vmem h_S16x512))
  Prog.lift (.store arg5 (Rect.unit (s := S512x512) (k0_off2 d0) S16x512.size (k0_off2_inb d0)) (k0_pay47 p g) Finset.univ (View.stores_vmem h_S16x512 (harg5.storeExact_slice rfl _ (k0_off2_packedbf16 d0)) (fun _ => rfl)) (.inl rfl))

/-- Iteration `j + 1` of the second exchange. -/
def stSend2 (d0 : Dev nD) (j : Fin 31) : Prog (TpuEff nD τ sig (Elt F) Λ₀ .tc) PUnit :=
  Prog.lift (.enqueueDma arg10 (.remote (Dev.tc (⟨devTo d0 (wordOf j), devTo_lt d0 j⟩ : Dev nD)) (slot arg11 j) (.dma (semAt arg14 j))) (.dma (semAt arg15 j))
    harg10.wordExact ((harg11.wordExact_slice rfl _ (slot_words j)).reshape _ _) ⟨⟨rfl, Or.inl rfl⟩, trivial⟩)

/-- The wait for the reduced rows that land in slot `j`, and their store into the result. -/
def stRecv2 (d0 : Dev nD) (j : Fin 31) : Prog (TpuEff nD τ sig (Elt F) Λ₀ .tc) PUnit := do
  Prog.lift (.waitDma2 (semAt arg15 j) arg10 (slot arg11 j) harg10.wordExact ((harg11.wordExact_slice rfl _ (slot_words j)).reshape _ _))
  let r ← Prog.lift (.load arg11 (slotRect j).toLoadRect (View.loadsAt_vmem h_S1x16x512))
  let _ ← Prog.lift (.load arg5 (Rect.unit (s := S512x512) (k0_off3 d0 (wordOf j)) S16x512.size (k0_off3_inb d0 j)).toLoadRect (View.loadsAt_vmem h_S16x512))
  Prog.lift (.store arg5 (Rect.unit (s := S512x512) (k0_off3 d0 (wordOf j)) S16x512.size (k0_off3_inb d0 j)) (k0_pay49 r) Finset.univ (View.stores_vmem h_S16x512 (harg5.storeExact_slice rfl _ (k0_off3_packedbf16 d0 j)) (fun _ => rfl)) (.inl rfl))

/-- The wait for the first exchange's send `j`. -/
def stDone1 (j : Fin 31) : Prog (TpuEff nD τ sig (Elt F) Λ₀ .tc) PUnit :=
  Prog.lift (.waitDma2 (semAt arg12 j) (slot arg9 j) (slot arg8 j) ((harg9.wordExact_slice rfl _ (slot_words j)).reshape _ _) ((harg8.wordExact_slice rfl _ (slot_words j)).reshape _ _))

/-- The wait for the second exchange's send `j`. -/
def stDone2 (j : Fin 31) : Prog (TpuEff nD τ sig (Elt F) Λ₀ .tc) PUnit :=
  Prog.lift (.waitDma2 (semAt arg14 j) (slot arg11 j) arg10 ((harg11.wordExact_slice rfl _ (slot_words j)).reshape _ _) harg10.wordExact)

/-- The body as a program of loops. -/
def loopBody : Prog (TpuEff nD τ sig (Elt F) Λ₀ .tc) PUnit := do
  let d0 ← Prog.lift .deviceId
  each (stSignal d0) all31
  semWaitWord bar 31#32
  stAttend arg0 arg1 arg2 arg3 arg4 arg6 harg6 arg7 harg7
  each (stPack arg6 arg8 harg8 d0) all31
  each (stSend1 arg8 harg8 arg9 harg9 arg12 arg13 d0) all31
  each (stRecv1 arg8 harg8 arg9 harg9 arg13) all31
  stReduce arg5 harg5 arg6 arg9 arg10 harg10 d0
  each (stSend2 arg10 harg10 arg11 harg11 arg14 arg15 d0) all31
  each (stRecv2 arg5 harg5 arg10 harg10 arg11 harg11 arg15 d0) all31
  each (stDone1 arg8 harg8 arg9 harg9 arg12) all31
  each (stDone2 arg10 harg10 arg11 harg11 arg14) all31

set_option maxRecDepth 65536 in
/-- The kernel's body is the program of loops. -/
theorem cc0_body_eq : cc0_body (F := F) arg0 harg0 arg1 harg1 arg2 harg2 arg3 harg3 arg4 harg4 arg5 harg5 arg6 harg6 arg7 harg7 arg8 harg8 arg9 harg9 arg10 harg10
      arg11 harg11 arg12 arg13 arg14 arg15
    = loopBody arg0 arg1 arg2 arg3 arg4 arg5 harg5 arg6 harg6 arg7 harg7 arg8 harg8 arg9 harg9 arg10 harg10 arg11 harg11 arg12 arg13 arg14 arg15 := by
  chain_rfl

end Cert.KernelIdeal.Run

end
-- ==== Proof.Slots.lean ====
/-
  Where the blocks lie, and what they hold. The 32 devices stand on a ring: `ahead c j` is the device `j + 1` places after `c`, `behind c j` the one
  `j + 1` places before it. Each device cuts its partial product `part` into 32 blocks of 16 rows, one per device; block `e` goes to device `e`, which adds
  the 32 blocks it then has and sends the sum to everyone. This file names the contents of each buffer of that exchange as a function of `part` alone, and
  says what each load, store and copy does to them.
-/
module

public import proofs.«01_k».proof.Proof.Loop
public import Idealize.ShloMosaic.Lib.Pointwise.Index
public import Idealize.ShloMosaic.Lib.Pipeline.ValueKit.Geometry

@[expose] public section

noncomputable section

namespace Cert.KernelIdeal.Run

open Idealize.ShloMosaic Idealize.SL.Sem
open Cert.KernelIdeal.Gen

variable {F : FTy → Type} [FloatOps F] [Named F]

/-! ## The ring -/

/-- The device `j + 1` places ahead. -/
def ahead (c : Dev nD) (j : Fin 31) : Dev nD := ⟨(c.val + (1 + j.val)) % 32, Nat.mod_lt _ (by decide)⟩
/-- The device `j + 1` places behind. -/
def behind (c : Dev nD) (j : Fin 31) : Dev nD := ⟨(c.val + (31 - j.val)) % 32, Nat.mod_lt _ (by decide)⟩

theorem devTo_ahead (c : Dev nD) (j : Fin 31) : (⟨devTo c (wordOf j), devTo_lt c j⟩ : Dev nD) = ahead c j := Fin.ext (devTo_eq c j)

theorem ahead_behind (c : Dev nD) (j : Fin 31) : ahead (behind c j) j = c := by
  apply Fin.ext; show ((c.val + (31 - j.val)) % 32 + (1 + j.val)) % 32 = c.val
  have hc : c.val < 32 := c.isLt; have := j.isLt; omega
theorem behind_ahead (c : Dev nD) (j : Fin 31) : behind (ahead c j) j = c := by
  apply Fin.ext; show ((c.val + (1 + j.val)) % 32 + (31 - j.val)) % 32 = c.val
  have hc : c.val < 32 := c.isLt; have := j.isLt; omega
theorem ahead_rev (c : Dev nD) (j : Fin 31) : ahead c (Fin.rev j) = behind c j := by
  apply Fin.ext; show (c.val + (1 + (Fin.rev j).val)) % 32 = (c.val + (31 - j.val)) % 32
  rw [Fin.val_rev]; have hc : c.val < 32 := c.isLt; have := j.isLt; congr 1; omega
theorem ahead_ne (c : Dev nD) (j : Fin 31) : ahead c j ≠ c := by
  intro h; have := congrArg Fin.val h
  have h' : (c.val + (1 + j.val)) % 32 = c.val := this
  have hc : c.val < 32 := c.isLt; have := j.isLt; omega
/-- Every other device is behind at one place only. -/
theorem behind_inj (c : Dev nD) : Function.Injective (behind c) := by
  intro j j' h
  have h' : (c.val + (31 - j.val)) % 32 = (c.val + (31 - j'.val)) % 32 := congrArg Fin.val h
  apply Fin.ext; have hc : c.val < 32 := c.isLt; have := j.isLt; have := j'.isLt; omega
theorem exists_behind (c e : Dev nD) (h : e ≠ c) : ∃ j, e = behind c j := by
  have hc : c.val < 32 := c.isLt; have he : e.val < 32 := e.isLt
  have hn : e.val ≠ c.val := fun hh => h (Fin.ext hh)
  refine ⟨⟨(c.val + 31 - e.val) % 32, by omega⟩, Fin.ext ?_⟩
  show e.val = (c.val + (31 - (c.val + 31 - e.val) % 32)) % 32
  omega

/-! ## What the buffers hold -/

/-- Row `r` of device `e`'s block. -/
def rowOf (e : Dev nD) (r : Fin 16) : Fin 512 := ⟨16 * e.val + r.val, by have he : e.val < 32 := e.isLt; have := r.isLt; change 16 * e.val + r.val < 512; omega⟩
/-- The device whose block holds row `x`. -/
def ownerOf (x : Fin 512) : Dev nD := ⟨x.val / 16, by have := x.isLt; change x.val / 16 < 32; omega⟩
/-- Its place in the block. -/
def inBlock (x : Fin 512) : Fin 16 := ⟨x.val % 16, Nat.mod_lt _ (by decide)⟩
theorem rowOf_owner (x : Fin 512) : rowOf (ownerOf x) (inBlock x) = x := Fin.ext (Nat.div_add_mod x.val 16)

variable (part : Dev nD → FVec F S512x512 .bf16)

/-- The send slots: slot `j` is the block of the device `j + 1` places ahead. -/
def sendV (c : Dev nD) : FVec F S31x16x512 .bf16 := fun i => part c (ix2 (rowOf (ahead c (i 0)) (i 1)) (i 2))
/-- The gather slots: slot `j` is the device's own block of what the device `j + 1` places behind computed. -/
def gathV (c : Dev nD) : FVec F S31x16x512 .bf16 := fun i => part (behind c (i 0)) (ix2 (rowOf c (i 1)) (i 2))
/-- The device's own block of its own partial product. -/
def ownV (c : Dev nD) : FVec F S16x512 .bf16 := fun i => part c (ix2 (rowOf c (i 0)) (i 1))
/-- The device's rows, reduced. -/
def redV (c : Dev nD) : FVec F S16x512 .bf16 := k0_pay48 (ownV part c) (gathV part c)
/-- The slots of the second exchange: slot `j` is the reduced rows of the device `j + 1` places behind. -/
def rgathV (c : Dev nD) : FVec F S31x16x512 .bf16 := fun i => redV part (behind c (i 0)) (ix2 (i 1) (i 2))
/-- The result: every device's reduced rows in turn, the same on every device. -/
def outV : FVec F S512x512 .bf16 := fun i => redV part (ownerOf (i 0)) (ix2 (inBlock (i 0)) (i 1))

/-! ## The offsets -/

theorem k0_off1_eq : ∀ (c : Dev nD) (j : Fin 31), k0_off1 c (wordOf j) = ![16 * (ahead c j).val, 0] := by decide +kernel
theorem k0_off2_eq : ∀ (c : Dev nD), k0_off2 c = ![16 * c.val, 0] := by decide +kernel
theorem k0_off3_eq : ∀ (c : Dev nD) (j : Fin 31), k0_off3 c (wordOf j) = ![16 * (behind c j).val, 0] := by decide +kernel

/-! ## Rows of a 512 × 512 buffer -/

/-- A block's rows, read. -/
theorem read_rows (e : Dev nD) (off : Fin 2 → ℕ) (h : off = ![16 * e.val, 0]) (inb : ∀ a, off a + S16x512.size a ≤ S512x512.size a) (f : FVec F S512x512 .bf16) :
    (Memref.whole cc0_scratch0).view.readAt (Elt F) (Rect.unit (s := S512x512) off S16x512.size inb).toLoadRect f
      = (fun i => f (ix2 (rowOf e (i 0)) (i 1)) : FVec F S16x512 .bf16) := by
  subst h
  funext i
  show f _ = f _
  congr 1; funext a
  match a with
  | ⟨0, _⟩ => exact Fin.ext (by show 16 * e.val + 1 * (i 0).val = 16 * e.val + (i 0).val; omega)
  | ⟨1, _⟩ => exact Fin.ext (by show 0 + 1 * (i 1).val = (i 1).val; omega)

/-- A block's rows, stored: they are the new rows, and the other rows stay. -/
theorem write_rows (e : Dev nD) (off : Fin 2 → ℕ) (h : off = ![16 * e.val, 0]) (inb : ∀ a, off a + S16x512.size a ≤ S512x512.size a) (f : FVec F S512x512 .bf16)
    (w : FVec F S16x512 .bf16) (i : S512x512.Idx) :
    ((Memref.whole cc0_stg5_0).access (Rect.unit (s := S512x512) off S16x512.size inb)).write (Elt F) f w Finset.univ i
      = if ownerOf (i 0) = e then w (ix2 (inBlock (i 0)) (i 1)) else f i := by
  subst h
  split
  · next h =>
      have he : i = ((Memref.whole cc0_stg5_0).access (Rect.unit (s := S512x512) ![16 * e.val, 0] S16x512.size inb)).emb (ix2 (inBlock (i 0)) (i 1)) := by
        funext a
        match a with
        | ⟨0, _⟩ =>
            refine Fin.ext ?_
            show (i 0).val = 16 * e.val + 1 * ((i 0).val % 16)
            rw [← h]; show (i 0).val = 16 * ((i 0).val / 16) + 1 * ((i 0).val % 16); omega
        | ⟨1, _⟩ => exact Fin.ext (by show (i 1).val = 0 + 1 * (i 1).val; omega)
      conv_lhs => rw [he]
      rw [View.write_emb_of_mem _ _ (Finset.mem_univ _)]; rfl
  · next h =>
      refine View.write_of_not_mem _ _ _ ?_
      intro hm
      apply h
      obtain ⟨x, -, hx⟩ := Finset.mem_map.mp hm
      apply Fin.ext
      show (i 0).val / 16 = e.val
      rw [← hx]
      have : (x 0).val < 16 := (x 0).isLt
      show (16 * e.val + 1 * (x 0).val) / 16 = e.val
      omega

/-! ## Slots of a 31-slot buffer -/

theorem mem_slotRect (j : Fin 31) (i : S31x16x512.Idx) : i ∈ (slotRect j).set ↔ i 0 = j := by
  rw [LoadRect.mem_set]
  constructor
  · intro h; obtain ⟨k, hk, h⟩ := h 0
    apply Fin.ext; rw [h]; have : k < 1 := hk
    show j.val + 1 * k = j.val; omega
  · intro h a
    match a with
    | ⟨0, _⟩ => exact ⟨0, Nat.one_pos, by rw [← h]; show (i 0).val = (i 0).val + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

theorem slots_disjoint (j j' : Fin 31) (h : j ≠ j') : Disjoint (slotRect j).set (slotRect j').set :=
  Finset.disjoint_left.mpr fun _ hi hi' => h (((mem_slotRect _ _).mp hi).symm.trans ((mem_slotRect _ _).mp hi'))

theorem slots_cover : (Finset.univ : Finset S31x16x512.Idx) = Finset.univ.biUnion fun j => (slotRect j).set := by
  symm; rw [Finset.eq_univ_iff_forall]
  exact fun i => Finset.mem_biUnion.mpr ⟨i 0, Finset.mem_univ _, (mem_slotRect _ _).mpr rfl⟩

theorem squeeze_ix (x : S16x512.Idx) (h : S16x512.numel = S1x16x512.numel) : Shape.reshapeEquiv h x = ix3 (0 : Fin 1) (x 0) (x 1) :=
  Shape.reshapeEquiv_eq_of_rowMajor h (by
    have e3 : ∀ y : S1x16x512.Idx, (S1x16x512.rowMajor y).val = ((y 0).val * 16 + (y 1).val) * 512 + (y 2).val := fun y => Shape.rowMajor_val_three y
    have e2 : (S16x512.rowMajor x).val = (x 0).val * 512 + (x 1).val := Shape.rowMajor_val_two x
    rw [e2]; refine (e3 _).trans ?_
    show (0 * 16 + (x 0).val) * 512 + (x 1).val = (x 0).val * 512 + (x 1).val
    omega)
theorem unsqueeze_ix (x : S1x16x512.Idx) (h : S1x16x512.numel = S16x512.numel) : Shape.reshapeEquiv h x = ix2 (x 1) (x 2) :=
  Shape.reshapeEquiv_eq_of_rowMajor h (by
    have e2 : ∀ y : S16x512.Idx, (S16x512.rowMajor y).val = (y 0).val * 512 + (y 1).val := fun y => Shape.rowMajor_val_two y
    have e3 : (S1x16x512.rowMajor x).val = ((x 0).val * 16 + (x 1).val) * 512 + (x 2).val := Shape.rowMajor_val_three x
    rw [e3]; refine (e2 _).trans ?_
    have : (x 0).val < 1 := (x 0).isLt
    show (x 1).val * 512 + (x 2).val = ((x 0).val * 16 + (x 1).val) * 512 + (x 2).val
    omega)

theorem slotRect_emb (j : Fin 31) (x : S1x16x512.Idx) : (slotRect j).emb x = ix3 j (x 1) (x 2) := by
  funext a
  match a with
  | ⟨0, _⟩ => exact Fin.ext (by have : (x 0).val < 1 := (x 0).isLt
                                show j.val + 1 * (x 0).val = j.val; omega)
  | ⟨1, _⟩ => exact Fin.ext (by show 0 + 1 * (x 1).val = (x 1).val; omega)
  | ⟨2, _⟩ => exact Fin.ext (by show 0 + 1 * (x 2).val = (x 2).val; omega)

theorem slot2_emb (j : Fin 31) (x : S16x512.Idx) : (slot (Memref.whole cc0_scratch2) j).view.emb x = ix3 j (x 0) (x 1) := by
  show (slotRect j).emb (Shape.reshapeEquiv _ x) = _
  rw [slotRect_emb, squeeze_ix]; rfl
theorem slot3_emb (j : Fin 31) (x : S16x512.Idx) : (slot (Memref.whole cc0_scratch3) j).view.emb x = ix3 j (x 0) (x 1) := by
  show (slotRect j).emb (Shape.reshapeEquiv _ x) = _
  rw [slotRect_emb, squeeze_ix]; rfl
theorem slot5_emb (j : Fin 31) (x : S16x512.Idx) : (slot (Memref.whole cc0_scratch5) j).view.emb x = ix3 j (x 0) (x 1) := by
  show (slotRect j).emb (Shape.reshapeEquiv _ x) = _
  rw [slotRect_emb, squeeze_ix]; rfl

theorem slot2_set (j : Fin 31) : (slot (Memref.whole cc0_scratch2) j).view.set = (slotRect j).set :=
  (View.set_reshape ((View.whole cc0_scratch2).slice (slotRect j)) _).trans (View.set_slice_whole _ _)
theorem slot3_set (j : Fin 31) : (slot (Memref.whole cc0_scratch3) j).view.set = (slotRect j).set :=
  (View.set_reshape ((View.whole cc0_scratch3).slice (slotRect j)) _).trans (View.set_slice_whole _ _)
theorem slot5_set (j : Fin 31) : (slot (Memref.whole cc0_scratch5) j).view.set = (slotRect j).set :=
  (View.set_reshape ((View.whole cc0_scratch5).slice (slotRect j)) _).trans (View.set_slice_whole _ _)

/-- Packing slot `j`. -/
theorem write_slot2 (j : Fin 31) (f : FVec F S31x16x512 .bf16) (c : Dev nD) (i : S31x16x512.Idx) (hi : i ∈ (slotRect j).set) :
    ((Memref.whole cc0_scratch2).access (slotRect j)).write (Elt F) f (k0_pay16 (fun i => part c (ix2 (rowOf (ahead c j) (i 0)) (i 1)))) Finset.univ i
      = sendV part c i := by
  have h0 := (mem_slotRect j i).mp hi
  have he : i = ((Memref.whole cc0_scratch2).access (slotRect j)).emb (ix3 (0 : Fin 1) (i 1) (i 2)) := by
    conv_lhs => rw [eq_ix3 i, h0]
    exact (slotRect_emb j (ix3 (0 : Fin 1) (i 1) (i 2))).symm
  conv_lhs => rw [he]
  rw [View.write_emb_of_mem _ _ (Finset.mem_univ _), cast_eq]
  show k0_pay16 _ (ix3 (0 : Fin 1) (i 1) (i 2)) = sendV part c i
  unfold k0_pay16 sendV
  refine (congrArg (fun y : S16x512.Idx => part c (ix2 (rowOf (ahead c j) (y 0)) (y 1))) (unsqueeze_ix (ix3 (0 : Fin 1) (i 1) (i 2)) _)).trans ?_
  rw [h0]; rfl

/-- What the first exchange's copy `j` leaves in the gather slot of the device ahead. -/
theorem land1 (j : Fin 31) (c : Dev nD) (f : FVec F S31x16x512 .bf16) (i : S31x16x512.Idx) (hi : i ∈ (slotRect j).set) :
    (slot (Memref.whole cc0_scratch3) j).view.write (Elt F) f ((slot (Memref.whole cc0_scratch2) j).view.read (Elt F) (sendV part c)) Finset.univ i
      = gathV part (ahead c j) i := by
  have h0 := (mem_slotRect j i).mp hi
  have he : i = (slot (Memref.whole cc0_scratch3) j).view.emb (ix2 (i 1) (i 2)) := by
    rw [slot3_emb]; conv_lhs => rw [eq_ix3 i, h0]
    rfl
  conv_lhs => rw [he]
  rw [View.write_emb_of_mem _ _ (Finset.mem_univ _)]
  show sendV part c ((slot (Memref.whole cc0_scratch2) j).view.emb (ix2 (i 1) (i 2))) = _
  rw [slot2_emb]
  unfold sendV gathV
  rw [h0, behind_ahead]
  rfl

/-- What the second exchange's copy `j` leaves in the slot of the device ahead. -/
theorem land2 (j : Fin 31) (c : Dev nD) (f : FVec F S31x16x512 .bf16) (i : S31x16x512.Idx) (hi : i ∈ (slotRect j).set) :
    (slot (Memref.whole cc0_scratch5) j).view.write (Elt F) f ((Memref.whole cc0_scratch4).view.read (Elt F) (redV part c)) Finset.univ i
      = rgathV part (ahead c j) i := by
  have h0 := (mem_slotRect j i).mp hi
  have he : i = (slot (Memref.whole cc0_scratch5) j).view.emb (ix2 (i 1) (i 2)) := by
    rw [slot5_emb]; conv_lhs => rw [eq_ix3 i, h0]
    rfl
  conv_lhs => rw [he]
  rw [View.write_emb_of_mem _ _ (Finset.mem_univ _)]
  show redV part c (ix2 (i 1) (i 2)) = _
  unfold rgathV
  rw [h0, behind_ahead]

/-- The rows that landed in slot `j`, as the store of the result takes them. -/
theorem read_slot5 (j : Fin 31) (c : Dev nD) :
    k0_pay49 ((Memref.whole cc0_scratch5).view.readAt (Elt F) (slotRect j).toLoadRect (rgathV part c)) = redV part (behind c j) := by
  funext x
  show rgathV part c ((slotRect j).emb (Shape.reshapeEquiv _ x)) = _
  rw [slotRect_emb, squeeze_ix]
  show redV part (behind c j) (ix2 (x 0) (x 1)) = _
  rw [← eq_ix2 x]

/-- The two stores of the reduced rows store the same. -/
theorem pay47_eq (p : FVec F S16x512 .bf16) (g : FVec F S31x16x512 .bf16) : k0_pay47 p g = k0_pay48 p g := by
  unfold k0_pay48; funext i; unfold shapeCast; rw [Shape.reshapeEquiv_self]

end Cert.KernelIdeal.Run

end
-- ==== Proof.Protocol.lean ====
/-
  The protocol of the two exchanges, as rounds of semaphore cells.

  Entry barrier: every device raises the barrier cell of each other device by one. The unit that device `behind c j` pays to device `c` (duty `j`) carries
  that device's gather slot and second-exchange slot `rev j`, the two slots in which `c`'s own copies to it will land, and that their receive cells are open.
  First exchange: copy `j` of device `c` reads its send slot `j` and writes gather slot `j` of `ahead c j`. Its send cell gives the send slot back, its
  receive cell gives the gather slot back to its owner, at the contents `gathV`.
  Second exchange: the same with the reduced rows, a 31st share of them per copy, and the slots of `rgathV`.
-/
module

public import proofs.«01_k».proof.Proof.Slots
public import Idealize.ShloMosaic.Lib.Rounds
public import Idealize.ShloMosaic.Lib.SparseCore.Stream
public import Idealize.ShloMosaic.Lib.Pipeline.Kit

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The resources: the pipeline's own rounds, and the protocol's, whose duties are numbered by the 31 places. -/
abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

/-! ## The cells -/

/-- The four semaphore arrays: first exchange's sends and receives, second exchange's sends and receives. -/
abbrev arr : Fin 4 → DmaSems sig S31
  | 0 => cc0_scratch6 | 1 => cc0_scratch7 | 2 => cc0_scratch8 | 3 => cc0_scratch9
/-- Semaphore `j` of array `k`. -/
abbrev xsem (k : Fin 4) (j : Fin 31) : SemLoc sig := .dma (semAt (arr k) j)

abbrev barCell (c : Dev nD) : GSem nD τ sig := ((c : Thread nD τ), .reg bar)
abbrev xcell (c : Dev nD) (k : Fin 4) (j : Fin 31) : GSem nD τ sig := ((c : Thread nD τ), xsem k j)

theorem semAt_val : ∀ (k : Fin 4) (j : Fin 31), (semAt (arr k) j).val = 6 + 31 * k.val + j.val := by decide +kernel

/-- Which array a semaphore belongs to: 0 to 3, 4 for the barrier, 5 for the others. -/
def kindOf : SemLoc sig → ℕ
  | .reg _ => 4
  | .dma s => if s.val < 6 then 5 else (s.val - 6) / 31
/-- Its place in the array. -/
def numOf : SemLoc sig → Fin 31
  | .reg _ => ⟨0, by decide⟩
  | .dma s => ⟨(s.val - 6) % 31, Nat.mod_lt _ (by decide)⟩

theorem kindOf_x (k : Fin 4) (j : Fin 31) : kindOf (xsem k j) = k.val := by
  show (if (semAt (arr k) j).val < 6 then 5 else ((semAt (arr k) j).val - 6) / 31) = k.val
  rw [semAt_val, if_neg (by omega)]
  have := j.isLt; omega
theorem numOf_x (k : Fin 4) (j : Fin 31) : numOf (xsem k j) = j := by
  apply Fin.ext
  show ((semAt (arr k) j).val - 6) % 31 = j.val
  rw [semAt_val]; have := j.isLt; omega
theorem kindOf_bar : kindOf (.reg bar) = 4 := rfl

theorem xsem_inj {k k' : Fin 4} {j j' : Fin 31} (h : xsem k j = xsem k' j') : k = k' ∧ j = j' :=
  ⟨Fin.ext (by rw [← kindOf_x k j, h, kindOf_x]), by rw [← numOf_x k j, h, numOf_x]⟩
theorem xsem_ne_bar (k : Fin 4) (j : Fin 31) : xsem k j ≠ .reg bar := fun h => by cases h

/-- What a copy of one slot credits. -/
abbrev N : ℕ := (Memref.whole cc0_scratch4 : Memref sig .tc .vmem S16x512 .bf16).view.dmaCredit
theorem N_pos : 0 < N := View.dmaCredit_pos _ (by decide)

/-! ## The payloads -/

/-- Send slot `j`. -/
abbrev sSlot (c : Dev nD) (j : Fin 31) (f : FVec F S31x16x512 .bf16) : sProp 𝕄 :=
  (slot (Memref.whole cc0_scratch2) j).view.loc (c : Thread nD τ) ↦[(slot (Memref.whole cc0_scratch2) j).view.set]{fullShare} f
/-- Gather slot `j`. -/
abbrev gSlot (c : Dev nD) (j : Fin 31) (f : FVec F S31x16x512 .bf16) : sProp 𝕄 :=
  (slot (Memref.whole cc0_scratch3) j).view.loc (c : Thread nD τ) ↦[(slot (Memref.whole cc0_scratch3) j).view.set]{fullShare} f
/-- Slot `j` of the second exchange. -/
abbrev rSlot (c : Dev nD) (j : Fin 31) (f : FVec F S31x16x512 .bf16) : sProp 𝕄 :=
  (slot (Memref.whole cc0_scratch5) j).view.loc (c : Thread nD τ) ↦[(slot (Memref.whole cc0_scratch5) j).view.set]{fullShare} f
/-- The share of the reduced rows that copy `j` of the second exchange reads. -/
abbrev redShare (j : Fin 31) : PosShare TreeShare := pieceOf fullShare 31 (by decide) j
/-- The reduced rows, at a share. -/
abbrev redPts (c : Dev nD) (q : PosShare TreeShare) (f : FVec F S16x512 .bf16) : sProp 𝕄 :=
  (Memref.whole cc0_scratch4).view.loc (c : Thread nD τ) ↦[(Memref.whole cc0_scratch4).view.set]{q} f

variable (part : Dev nD → FVec F S512x512 .bf16)

/-- Paid to device `c`'s barrier by `behind c j`: its two slots that `c`'s copies fill, and that their cells are open. -/
def barPay (c : Dev nD) (j : Fin 31) : sProp 𝕄 :=
  iprop((∃ f, gSlot (behind c j) (Fin.rev j) f) ∗ (∃ f, rSlot (behind c j) (Fin.rev j) f)
    ∗ reached ER (xcell (behind c j) 1 (Fin.rev j)) 0 ∗ reached ER (xcell (behind c j) 3 (Fin.rev j)) 0)
def send1Pay (c : Dev nD) (j : Fin 31) : sProp 𝕄 := sSlot c j (sendV part c)
def recv1Pay (c : Dev nD) (j : Fin 31) : sProp 𝕄 := gSlot c j (gathV part c)
def send2Pay (c : Dev nD) (j : Fin 31) : sProp 𝕄 := redPts c (redShare j) (redV part c)
def recv2Pay (c : Dev nD) (j : Fin 31) : sProp 𝕄 := rSlot c j (rgathV part c)

/-- One round: 31 duties on a barrier cell, one on each copy's cells. -/
def sched : Rounds.Schedule (GSem nD τ sig) (Fin 31) 𝕄 where
  duties g r := if r = 0 ∧ g.1.2 = .tc then (if kindOf g.2 = 4 then Finset.univ else if kindOf g.2 < 4 then {0} else ∅) else ∅
  unitless _ := False
  amount g _ _ := if kindOf g.2 = 4 then 1 else N
  payload g _ d :=
    if kindOf g.2 = 4 then barPay g.1.1 d
    else if kindOf g.2 = 0 then send1Pay part g.1.1 (numOf g.2)
    else if kindOf g.2 = 1 then recv1Pay part g.1.1 (numOf g.2)
    else if kindOf g.2 = 2 then send2Pay part g.1.1 (numOf g.2)
    else if kindOf g.2 = 3 then recv2Pay part g.1.1 (numOf g.2)
    else iprop(emp)
  amount_pos g _ _ _ := by
    by_cases h : kindOf g.2 = 4
    · rw [if_pos h]; exact Nat.one_pos
    · rw [if_neg h]; exact N_pos

instance sched_payload_storable (g : GSem nD τ sig) (r : ℕ) (d : Fin 31) :
    BI.Storable (upEmb : UEmb _ 𝕄) ((sched (F := F) part).payload g r d) := by
  show BI.Storable upEmb (if kindOf g.2 = 4 then barPay g.1.1 d
    else if kindOf g.2 = 0 then send1Pay part g.1.1 (numOf g.2)
    else if kindOf g.2 = 1 then recv1Pay part g.1.1 (numOf g.2)
    else if kindOf g.2 = 2 then send2Pay part g.1.1 (numOf g.2)
    else if kindOf g.2 = 3 then recv2Pay part g.1.1 (numOf g.2)
    else iprop(emp))
  unfold barPay send1Pay recv1Pay send2Pay recv2Pay
  (repeat' split) <;> infer_instance

section Sched

variable (c : Dev nD) (j : Fin 31)

theorem duties_bar : (sched part).duties (barCell c) 0 = Finset.univ := by
  dsimp only [sched]; rw [if_pos ⟨rfl, rfl⟩, if_pos kindOf_bar]
theorem duties_x (k : Fin 4) : (sched part).duties (xcell c k j) 0 = {0} := by
  dsimp only [sched]
  rw [if_pos ⟨rfl, rfl⟩, if_neg (by rw [kindOf_x]; have := k.isLt; omega), if_pos (by rw [kindOf_x]; exact k.isLt)]
theorem duties_later (g : GSem nD τ sig) : ∀ r, 1 ≤ r → (sched part).duties g r = ∅ := fun r hr => by
  dsimp only [sched]; rw [if_neg (fun h => by omega)]
theorem mem_bar (d : Fin 31) : d ∈ (sched part).duties (barCell c) 0 := by rw [duties_bar]; exact Finset.mem_univ _
theorem mem_x (k : Fin 4) : (0 : Fin 31) ∈ (sched part).duties (xcell c k j) 0 := by rw [duties_x]; exact Finset.mem_singleton_self _

theorem amount_bar (d : Fin 31) : (sched part).amount (barCell c) 0 d = 1 := by dsimp only [sched]; exact if_pos kindOf_bar
theorem amount_x (k : Fin 4) (d : Fin 31) : (sched part).amount (xcell c k j) 0 d = N := by
  dsimp only [sched]; exact if_neg (by rw [kindOf_x]; have := k.isLt; omega)

theorem expect_bar : (sched part).expect (barCell c) 0 = 31 := by
  unfold Schedule.expect Schedule.amountOf
  rw [duties_bar, Finset.sum_congr rfl fun d _ => amount_bar part c d]; rfl
theorem expect_x (k : Fin 4) : (sched part).expect (xcell c k j) 0 = N := by
  unfold Schedule.expect Schedule.amountOf; rw [duties_x, Finset.sum_singleton, amount_x]

theorem payload_bar (d : Fin 31) : (sched part).payload (barCell c) 0 d = barPay c d := by dsimp only [sched]; exact if_pos kindOf_bar
theorem payload_0 (d : Fin 31) : (sched part).payload (xcell c 0 j) 0 d = send1Pay part c j := by
  dsimp only [sched]; rw [kindOf_x, numOf_x]; rfl
theorem payload_1 (d : Fin 31) : (sched part).payload (xcell c 1 j) 0 d = recv1Pay part c j := by
  dsimp only [sched]; rw [kindOf_x, numOf_x]; rfl
theorem payload_2 (d : Fin 31) : (sched part).payload (xcell c 2 j) 0 d = send2Pay part c j := by
  dsimp only [sched]; rw [kindOf_x, numOf_x]; rfl
theorem payload_3 (d : Fin 31) : (sched part).payload (xcell c 3 j) 0 d = recv2Pay part c j := by
  dsimp only [sched]; rw [kindOf_x, numOf_x]; rfl

theorem rest_bar : bigSep ((sched part).duties (barCell c) 0 \ ∅) (fun d => (sched part).payload (barCell c) 0 d)
    = bigSep Finset.univ fun d => (barPay c d : sProp 𝕄) := by
  rw [Finset.sdiff_empty, duties_bar]; exact bigSep_congr fun d _ => payload_bar part c d
theorem rest_x (k : Fin 4) : bigSep ((sched part).duties (xcell c k j) 0 \ ∅) (fun d => (sched part).payload (xcell c k j) 0 d)
    = (sched part).payload (xcell c k j) 0 0 := by
  rw [Finset.sdiff_empty, duties_x, bigSep_singleton]

end Sched

/-! ## What each device owes, and the levels of the cells -/

/-- The indices not yet visited. -/
def ge (k : ℕ) : Finset (Fin 31) := Finset.univ.filter fun j => k ≤ j.val
/-- The indices visited. -/
def lt (k : ℕ) : Finset (Fin 31) := Finset.univ.filter fun j => j.val < k

theorem ge_zero : ge 0 = Finset.univ := Finset.filter_true_of_mem fun _ _ => Nat.zero_le _
theorem ge_last : ge 31 = ∅ := Finset.filter_false_of_mem fun j _ => by have := j.isLt; omega
theorem lt_zero : lt 0 = ∅ := Finset.filter_false_of_mem fun j _ => by omega
theorem lt_last : lt 31 = Finset.univ := Finset.filter_true_of_mem fun j _ => j.isLt
theorem ge_insert (j : Fin 31) : ge j.val = insert j (ge (j.val + 1)) := by
  ext i; simp only [ge, Finset.mem_filter, Finset.mem_univ, true_and, Finset.mem_insert, Fin.ext_iff]; omega
theorem ge_not_mem (j : Fin 31) : j ∉ ge (j.val + 1) := by
  simp only [ge, Finset.mem_filter, Finset.mem_univ, true_and]; omega
theorem lt_insert (j : Fin 31) : lt (j.val + 1) = insert j (lt j.val) := by
  ext i; simp only [lt, Finset.mem_filter, Finset.mem_univ, true_and, Finset.mem_insert, Fin.ext_iff]; omega
theorem lt_not_mem (j : Fin 31) : j ∉ lt j.val := by
  simp only [lt, Finset.mem_filter, Finset.mem_univ, true_and]; omega

/-- The barrier units still to be paid from step `k` on. -/
def owB (c : Dev nD) (k : ℕ) : CellTallies nD τ sig Unit := ∑ j ∈ ge k, tallyAt (barCell (ahead c j)) () 1
/-- The landings of the first exchange still to be paid. -/
def ow1 (c : Dev nD) (k : ℕ) : CellTallies nD τ sig Unit := ∑ j ∈ ge k, tallyAt (xcell (ahead c j) 1 j) () N
/-- The landings of the second exchange still to be paid. -/
def ow2 (c : Dev nD) (k : ℕ) : CellTallies nD τ sig Unit := ∑ j ∈ ge k, tallyAt (xcell (ahead c j) 3 j) () N
/-- What a device owes at launch. -/
def O₀ (c : Dev nD) : CellTallies nD τ sig Unit := ow2 c 0 + ow1 c 0 + owB c 0

theorem owB_step (c : Dev nD) (j : Fin 31) : owB c j.val = owB c (j.val + 1) + tallyAt (barCell (ahead c j)) () 1 := by
  unfold owB; rw [ge_insert, Finset.sum_insert (ge_not_mem j), add_comm]
theorem ow1_step (c : Dev nD) (j : Fin 31) : ow1 c j.val = ow1 c (j.val + 1) + tallyAt (xcell (ahead c j) 1 j) () N := by
  unfold ow1; rw [ge_insert, Finset.sum_insert (ge_not_mem j), add_comm]
theorem ow2_step (c : Dev nD) (j : Fin 31) : ow2 c j.val = ow2 c (j.val + 1) + tallyAt (xcell (ahead c j) 3 j) () N := by
  unfold ow2; rw [ge_insert, Finset.sum_insert (ge_not_mem j), add_comm]
theorem owB_last (c : Dev nD) : owB c 31 = 0 := by unfold owB; rw [ge_last, Finset.sum_empty]
theorem ow1_last (c : Dev nD) : ow1 c 31 = 0 := by unfold ow1; rw [ge_last, Finset.sum_empty]
theorem ow2_last (c : Dev nD) : ow2 c 31 = 0 := by unfold ow2; rw [ge_last, Finset.sum_empty]

def L (g : GSem nD τ sig) : Finset Unit := if g.1.2 = .tc then {()} else ∅
/-- Barrier cells at 1, the first exchange's receives at 2, the second's at 3. -/
def lv (g : GSem nD τ sig) (_ : Unit) : ℕ :=
  if kindOf g.2 = 4 then 1 else if kindOf g.2 = 1 then 2 else if kindOf g.2 = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [if_pos kindOf_bar]
theorem lv_1 (c : Dev nD) (j : Fin 31) (u : Unit) : lv (xcell c 1 j) u = 2 := by unfold lv; rw [kindOf_x]; rfl
theorem lv_3 (c : Dev nD) (j : Fin 31) (u : Unit) : lv (xcell c 3 j) u = 3 := by unfold lv; rw [kindOf_x]; rfl

theorem pos_of_sum {s : Finset (Fin 31)} {g₀ : Fin 31 → GSem nD τ sig} {n : ℕ} {g : GSem nD τ sig} {u : Unit}
    (h : 0 < (∑ j ∈ s, (tallyAt (g₀ j) () n : CellTallies nD τ sig Unit)) g u) : ∃ j, g = g₀ j := by
  by_contra hn
  refine absurd h ?_
  rw [Finset.sum_apply, Finsupp.finset_sum_apply, Finset.sum_eq_zero fun j _ => ?_]
  · exact Nat.lt_irrefl 0
  · rw [tallyAt_apply, if_neg fun hh => hn ⟨j, hh.1⟩]

/-- A cell in debt is a receive cell of the second exchange, one of the first, or a barrier. -/
theorem ow2_pos {c : Dev nD} {k : ℕ} {g : GSem nD τ sig} {u : Unit} (h : 0 < ow2 c k g u) : ∃ d j, g = xcell d 3 j := by
  obtain ⟨j, hj⟩ := pos_of_sum h; exact ⟨_, _, hj⟩
theorem ow1_pos {c : Dev nD} {k : ℕ} {g : GSem nD τ sig} {u : Unit} (h : 0 < ow1 c k g u) : ∃ d j, g = xcell d 1 j := by
  obtain ⟨j, hj⟩ := pos_of_sum h; exact ⟨_, _, hj⟩
theorem owB_pos {c : Dev nD} {k : ℕ} {g : GSem nD τ sig} {u : Unit} (h : 0 < owB c k g u) : ∃ d, g = barCell d := by
  obtain ⟨j, hj⟩ := pos_of_sum h; exact ⟨_, hj⟩

theorem O₀_pos {c : Dev nD} {g : GSem nD τ sig} {u : Unit} (h : 0 < O₀ c g u) :
    (∃ d j, g = xcell d 3 j) ∨ (∃ d j, g = xcell d 1 j) ∨ ∃ d, g = barCell d := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · exact .inl (ow2_pos h)
    · exact .inr (.inl (ow1_pos h))
  · exact .inr (.inr (owB_pos h))

/-- A device may wait on its barrier while it owes the landings of both exchanges. -/
theorem mayWait_bar (c : Dev nD) : (levAts L lv : sProp 𝕄) ⊢ MayWait (c : Thread nD τ) (.reg bar) () (ow2 c 0 + ow1 c 0) :=
  MayOwe.of_cut (L := L) (lev := lv) 1 (fun p hp => by rw [Finset.mem_singleton.mp hp, L_tc]; exact Finset.mem_singleton_self _)
    (fun g u hg => by
      rw [Pi.add_apply, Finsupp.add_apply] at hg
      rcases Nat.add_pos_iff_pos_or_pos.mp hg with h | h
      · obtain ⟨d, j, rfl⟩ := ow2_pos h; rw [L_tc]; exact Finset.mem_singleton_self _
      · obtain ⟨d, j, rfl⟩ := ow1_pos h; rw [L_tc]; exact Finset.mem_singleton_self _)
    (fun p hp => by rw [Finset.mem_singleton.mp hp, lv_bar])
    (fun g u hg => by
      rw [Pi.add_apply, Finsupp.add_apply] at hg
      rcases Nat.add_pos_iff_pos_or_pos.mp hg with h | h
      · obtain ⟨d, j, rfl⟩ := ow2_pos h; rw [lv_3]; decide
      · obtain ⟨d, j, rfl⟩ := ow1_pos h; rw [lv_1]; decide)

/-- A device may wait for a landing of the first exchange while it owes the second's. -/
theorem mayWait_1 (c : Dev nD) (j : Fin 31) : (levAts L lv : sProp 𝕄) ⊢ MayWait (c : Thread nD τ) (xsem 1 j) () (ow2 c 0) :=
  MayOwe.of_cut (L := L) (lev := lv) 2 (fun p hp => by rw [Finset.mem_singleton.mp hp, L_tc]; exact Finset.mem_singleton_self _)
    (fun g u hg => by obtain ⟨d, j, rfl⟩ := ow2_pos hg; rw [L_tc]; exact Finset.mem_singleton_self _)
    (fun p hp => by rw [Finset.mem_singleton.mp hp, lv_1])
    (fun g u hg => by obtain ⟨d, j, rfl⟩ := ow2_pos hg; rw [lv_3]; decide)

abbrev 𝒱₀ : Variants := Variants.none

/-- After its only round a cell is closed, its counter back at zero. -/
theorem close (κ : ℕ) (g : GSem nD τ sig) :
    iprop(cellInv ER (sched part) κ g ∗ atPos ER g (0 + 1) ∅ 0) ⊢ (|={Set.univ}=> semVal g 0 : sProp 𝕄) :=
  Rounds.cell_close ER (sched part) (Set.mem_univ κ) id (duties_later part g)

/-! ## The cells' names -/

def barEmb : Dev nD ↪ GSem nD τ sig := ⟨fun c => barCell c, fun _ _ h => congrArg (fun g : GSem nD τ sig => g.1.1) h⟩
def xEmb : Dev nD × (Fin 4 × Fin 31) ↪ GSem nD τ sig :=
  ⟨fun ck => xcell ck.1 ck.2.1 ck.2.2, fun _ _ h =>
    Prod.ext (congrArg (fun g : GSem nD τ sig => g.1.1) h) (Prod.ext (xsem_inj (congrArg Prod.snd h)).1 (xsem_inj (congrArg Prod.snd h)).2)⟩
/-- The barrier cells, and the copies' cells. -/
abbrev barCells : Finset (GSem nD τ sig) := Finset.univ.map barEmb
abbrev xCells : Finset (GSem nD τ sig) := Finset.univ.map xEmb

theorem disjoint_cells : Disjoint (barCells : Finset (GSem nD τ sig)) xCells := by
  rw [Finset.disjoint_left]
  rintro g h₁ h₂
  obtain ⟨c, -, rfl⟩ := Finset.mem_map.mp h₁
  obtain ⟨ck, -, h⟩ := Finset.mem_map.mp h₂
  exact xsem_ne_bar _ _ (congrArg Prod.snd h)

/-- What every device may consult: every cell's invariant at its name, and that every barrier is open. -/
def records (K : GSem nD τ sig → ℕ) : sProp 𝕄 :=
  iprop((bigSep (barCells ∪ xCells) fun g => cellInv ER (sched part) (K g) g) ∗ bigSep barCells fun g => reached ER g 0)

instance records_persistent (K : GSem nD τ sig → ℕ) : BI.Persistent (records part K) := by unfold records; infer_instance

theorem inv_bar (K : GSem nD τ sig → ℕ) (c : Dev nD) : records part K ⊢ cellInv ER (sched part) (K (barCell c)) (barCell c) :=
  sep_elim_left.trans (bigSep_elim (Finset.mem_union_left _ (Finset.mem_map_of_mem barEmb (Finset.mem_univ c))))
theorem inv_x (K : GSem nD τ sig → ℕ) (c : Dev nD) (k : Fin 4) (j : Fin 31) : records part K ⊢ cellInv ER (sched part) (K (xcell c k j)) (xcell c k j) :=
  sep_elim_left.trans (bigSep_elim (Finset.mem_union_right _ (Finset.mem_map_of_mem xEmb (Finset.mem_univ (c, (k, j))))))
theorem reached_bar (K : GSem nD τ sig → ℕ) (c : Dev nD) : records part K ⊢ reached ER (barCell c) 0 :=
  sep_elim_right.trans (bigSep_elim (Finset.mem_map_of_mem barEmb (Finset.mem_univ c)))

end Cert.KernelIdeal.Run

end
-- ==== Proof.Each.lean ====
/-
  The rule of the kernel's loops: a step that turns what index `j` needs into what index `j` leaves, beside a state that moves from step to step,
  makes a loop that does so for all 31 indices.
-/
module

public import proofs.«01_k».proof.Proof.Protocol

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- Device `c` runs `p` and then holds `Q`. -/
abbrev runs (c : Dev nD) (p : Prog (TpuEff nD τ sig (Elt F) Λ₀ .tc) PUnit) (Q : sProp 𝕄) : sProp 𝕄 :=
  wp frame (wpE (defs₀ (F := F)) 𝒱₀ (c : Thread nD τ) none) Set.univ p fun _ => Q

/-- One program after another. -/
theorem runs_bind {c : Dev nD} {p : Prog (TpuEff nD τ sig (Elt F) Λ₀ .tc) PUnit} {k : PUnit → Prog (TpuEff nD τ sig (Elt F) Λ₀ .tc) PUnit}
    {P R Q : sProp 𝕄} (hp : P ⊢ runs c p R) (hk : R ⊢ runs c (k ⟨⟩) Q) : P ⊢ runs c (p.bind k) Q :=
  hp.trans ((wp_mono frame _ Set.univ fun _ => hk).trans (Entails.of_eq (wp_bind frame _ Set.univ p k fun _ => Q).symm))

/-- What the program does not use stays. -/
theorem runs_frame {c : Dev nD} {p : Prog (TpuEff nD τ sig (Elt F) Λ₀ .tc) PUnit} {P Q R : sProp 𝕄} (hp : P ⊢ runs c p Q) :
    iprop(P ∗ R) ⊢ runs c p iprop(Q ∗ R) :=
  (sep_mono_left hp).trans (wp_frame_r frame _ Set.univ)

theorem drop_all31 : ∀ j : Fin 31, all31.drop j.val = j :: all31.drop (j.val + 1) := by decide

theorem sep_ge (A : Fin 31 → sProp 𝕄) (j : Fin 31) : bigSep (ge j.val) A = iprop(A j ∗ bigSep (ge (j.val + 1)) A) := by
  rw [ge_insert, bigSep_insert (ge_not_mem j)]; rfl
theorem sep_lt (B : Fin 31 → sProp 𝕄) (j : Fin 31) : bigSep (lt (j.val + 1)) B = iprop(B j ∗ bigSep (lt j.val) B) := by
  rw [lt_insert, bigSep_insert (lt_not_mem j)]; rfl
theorem sep_lt_zero (B : Fin 31 → sProp 𝕄) : bigSep (lt 0) B = iprop(emp) := by
  rw [lt_zero, bigSep_empty]; rfl

/-- The loop rule, from index `k` on. -/
theorem each_from {c : Dev nD} (f : Fin 31 → Prog (TpuEff nD τ sig (Elt F) Λ₀ .tc) PUnit) (P : sProp 𝕄) [BI.Persistent P]
    (A B : Fin 31 → sProp 𝕄) (C : ℕ → sProp 𝕄) (h : ∀ j : Fin 31, iprop(P ∗ A j ∗ C j.val) ⊢ runs c (f j) iprop(B j ∗ C (j.val + 1))) :
    ∀ n k, k + n = 31 → iprop(P ∗ bigSep (ge k) A ∗ bigSep (lt k) B ∗ C k) ⊢ runs c (each f (all31.drop k)) iprop(bigSep Finset.univ B ∗ C 31)
  | 0, k, hk => by
      obtain rfl : k = 31 := by omega
      rw [lt_last, show each f (all31.drop 31) = .ret ⟨⟩ from rfl]
      unfold runs; rw [wp_ret]
      iintro ⟨-, -, HB, HC⟩
      imodintro
      isplitl [HB] <;> iassumption
  | n + 1, k, hk => by
      obtain ⟨j, rfl⟩ : ∃ j : Fin 31, j.val = k := ⟨⟨k, by omega⟩, rfl⟩
      rw [drop_all31 j]
      refine runs_bind (R := iprop(P ∗ bigSep (ge (j.val + 1)) A ∗ bigSep (lt (j.val + 1)) B ∗ C (j.val + 1))) ?_ (each_from f P A B C h n (j.val + 1) (by omega))
      have h₁ : iprop(P ∗ bigSep (ge j.val) A ∗ bigSep (lt j.val) B ∗ C j.val)
          ⊢ iprop((P ∗ A j ∗ C j.val) ∗ (P ∗ bigSep (ge (j.val + 1)) A ∗ bigSep (lt j.val) B)) := by
        rw [sep_ge]
        iintro ⟨#HP, ⟨HAj, HA⟩, HB, HC⟩
        isplitl [HAj HC]
        · isplitr; · iexact HP
          isplitl [HAj] <;> iassumption
        isplitr; · iexact HP
        isplitl [HA] <;> iassumption
      have h₂ : iprop((B j ∗ C (j.val + 1)) ∗ (P ∗ bigSep (ge (j.val + 1)) A ∗ bigSep (lt j.val) B))
          ⊢ iprop(P ∗ bigSep (ge (j.val + 1)) A ∗ bigSep (lt (j.val + 1)) B ∗ C (j.val + 1)) := by
        rw [sep_lt]
        iintro ⟨⟨HBj, HC⟩, HP, HA, HB⟩
        isplitl [HP]; · iexact HP
        isplitl [HA]; · iexact HA
        isplitr [HC]
        · isplitl [HBj] <;> iassumption
        iexact HC
      exact h₁.trans ((runs_frame (h j)).trans (wp_mono frame _ Set.univ fun _ => h₂))

/-- The loop rule. -/
theorem runs_each {c : Dev nD} (f : Fin 31 → Prog (TpuEff nD τ sig (Elt F) Λ₀ .tc) PUnit) (P : sProp 𝕄) [BI.Persistent P]
    (A B : Fin 31 → sProp 𝕄) (C : ℕ → sProp 𝕄) (h : ∀ j : Fin 31, iprop(P ∗ A j ∗ C j.val) ⊢ runs c (f j) iprop(B j ∗ C (j.val + 1))) :
    iprop(P ∗ bigSep Finset.univ A ∗ C 0) ⊢ runs c (each f all31) iprop(bigSep Finset.univ B ∗ C 31) := by
  have h₁ : iprop(P ∗ bigSep Finset.univ A ∗ C 0) ⊢ iprop(P ∗ bigSep (ge 0) A ∗ bigSep (lt 0) B ∗ C 0) := by
    rw [ge_zero, sep_lt_zero]
    iintro ⟨HP, HA, HC⟩
    isplitl [HP]; · iexact HP
    isplitl [HA]; · iexact HA
    isplitr; · iempintro
    iexact HC
  exact h₁.trans (each_from f P A B C h 31 0 rfl)

end Cert.KernelIdeal.Run

end
-- ==== Proof.Steps.lean ====
/-
  One step of each loop of the exchange: the semaphore signals and waits, the copies, and the packing. Each lemma says what step `j` takes and leaves.
-/
module

public import proofs.«01_k».proof.Proof.Each

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- A whole buffer of device `c`. -/
abbrev pt (c : Dev nD) (b : Ref sig .tc) (f : b.ty.Contents (Elt F)) : sProp 𝕄 := (Memref.whole b).view.loc (c : Thread nD τ) ↦{fullShare} f
/-- What a device owes, whatever it has waited on. -/
abbrev owing (c : Dev nD) (O : CellTallies nD τ sig Unit) : sProp 𝕄 := iprop(∃ W, owes (c : Thread nD τ) O W)
/-- Every cell of array `k` of device `c` is open. -/
abbrev opened (c : Dev nD) (k : Fin 4) : sProp 𝕄 := bigSep Finset.univ fun j => reached ER (xcell c k j) 0

theorem opened_at (c : Dev nD) (k : Fin 4) (j : Fin 31) : (opened c k : sProp 𝕄) ⊢ reached ER (xcell c k j) 0 := bigSep_elim (Finset.mem_univ j)

variable (part : Dev nD → FVec F S512x512 .bf16) (K : GSem nD τ sig → ℕ)

/-! ## The barrier -/

/-- What signal `j` takes: its duty, and the two slots it gives to the device ahead. -/
def sigA (c : Dev nD) (j : Fin 31) : sProp 𝕄 :=
  iprop(dutyTok ER (barCell (ahead c j)) 0 j ∗ (∃ f, gSlot c (Fin.rev j) f) ∗ ∃ f, rSlot c (Fin.rev j) f)

theorem step_signal (c : Dev nD) (j : Fin 31) :
    iprop((records part K ∗ opened c 1 ∗ opened c 3) ∗ sigA c j ∗ owing c (ow2 c 0 + ow1 c 0 + owB c j.val))
      ⊢ runs c (stSignal c j) iprop(emp ∗ owing c (ow2 c 0 + ow1 c 0 + owB c (j.val + 1))) := by
  unfold runs stSignal semSignalWord sigA
  rw [devTo_ahead]
  iintro ⟨⟨#HR, #H1, #H3⟩, ⟨Ht, Hg, Hr⟩, ⟨%W, HO⟩⟩
  iapply (Rounds.wp_signal 𝒱₀ ER (sched part) (c : Thread nD τ) none (dst := (ahead c j : Thread nD τ)) (sem := bar) (r := 0) (d := j) (κ := K (barCell (ahead c j)))
      (mem_bar part (ahead c j) j) (amount_bar part (ahead c j) j) () (O₀ := ow2 c 0 + ow1 c 0 + owB c j.val) (ow2 c 0 + ow1 c 0 + owB c (j.val + 1)) (by rw [owB_step, ← add_assoc]))
    $$ [HO Ht Hg Hr]
  · isplitr; · iapply (inv_bar part K (ahead c j)); iexact HR
    isplitl [HO]; · iexact HO
    isplitl [Ht]; · iexact Ht
    isplitl [Hg Hr]
    · rw [payload_bar]; unfold barPay; rw [behind_ahead]
      isplitl [Hg]; · iexact Hg
      isplitl [Hr]; · iexact Hr
      isplitr; · iapply (opened_at c 1 (Fin.rev j)); iexact H1
      iapply (opened_at c 3 (Fin.rev j)); iexact H3
    · iapply (reached_bar part K (ahead c j)); iexact HR
  iintro HO
  rw [wp_ret]; imodintro
  isplitr; · iempintro
  iexists W; iexact HO

/-- What the barrier hands a device for its copies `j`: the two slots of the device ahead, and their cells open. -/
def fromBar (c : Dev nD) (j : Fin 31) : sProp 𝕄 :=
  iprop((∃ f, gSlot (ahead c j) j f) ∗ (∃ f, rSlot (ahead c j) j f) ∗ reached ER (xcell (ahead c j) 1 j) 0 ∗ reached ER (xcell (ahead c j) 3 j) 0)

theorem fromBar_eq (c : Dev nD) : (bigSep Finset.univ fun d => (barPay c d : sProp 𝕄)) = bigSep Finset.univ fun j => fromBar c j := by
  rw [bigSep_univ_equiv Fin.revPerm (fun d => (barPay c d : sProp 𝕄))]
  refine bigSep_congr fun j _ => ?_
  show barPay c (Fin.rev j) = fromBar c j
  unfold barPay fromBar
  rw [← ahead_rev, Fin.rev_rev]

theorem step_barrier (c : Dev nD) :
    iprop(records part K ∗ levAts L lv ∗ cred (tallyAt (barCell c) () 31) ∗ atPos ER (barCell c) 0 ∅ 0 ∗ owing c (ow2 c 0 + ow1 c 0))
      ⊢ runs c (semWaitWord bar 31#32) iprop(semVal (barCell c) 0 ∗ (bigSep Finset.univ fun j => fromBar c j) ∗ owing c (ow2 c 0 + ow1 c 0)) := by
  unfold runs semWaitWord
  iintro ⟨#HR, #Hlev, Hc, Hat, ⟨%W, HO⟩⟩
  iapply (Rounds.wp_wait_rest_token 𝒱₀ ER (sched part) (c : Thread nD τ) none (κ := K (barCell c))
      (wpE_semWait_eq 𝒱₀ (c : Thread nD τ) none Set.univ) (Set.mem_univ _) () (O := ow2 c 0 + ow1 c 0) (W := W) (R := 0) (m := 0) (T := ∅)
      ((Nat.zero_add 31).trans (expect_bar part c).symm)) $$ [Hc HO Hat]
  · isplitr; · iapply (inv_bar part K c); iexact HR
    isplitl [Hc]; · iexact Hc
    isplitl [HO]; · iexact HO
    isplitr; · iapply (mayWait_bar c); iexact Hlev
    iexact Hat
  iintro ⟨HO, Hat, -, Hpay⟩
  ihave Hp := (Entails.of_eq ((rest_bar part c).trans (fromBar_eq c))) $$ Hpay
  rw [wp_ret]
  imod (close part (K (barCell c)) (barCell c)) $$ [Hat] with Hv
  · isplitr; · iapply (inv_bar part K c); iexact HR
    iexact Hat
  imodintro
  isplitl [Hv]; · iexact Hv
  isplitl [Hp]; · iexact Hp
  iexists _; iexact HO

/-! ## The packing -/

theorem access2_set (j : Fin 31) : ((Memref.whole cc0_scratch2).access (slotRect j)).set = (slot (Memref.whole cc0_scratch2) j).view.set :=
  (View.set_slice_whole _ _).trans (slot2_set j).symm

theorem packed (f : FVec F S31x16x512 .bf16) (c : Dev nD) (j : Fin 31) :
    (((Memref.whole cc0_scratch2).access (slotRect j)).loc (c : Thread nD τ) ↦[(slot (Memref.whole cc0_scratch2) j).view.set]{fullShare}
        ((Memref.whole cc0_scratch2).access (slotRect j)).write (Elt F) f (k0_pay16 ((Memref.whole cc0_scratch0).view.readAt (Elt F)
          (Rect.unit (s := S512x512) (k0_off1 c (wordOf j)) S16x512.size (k0_off1_inb c j)).toLoadRect (part c))) Finset.univ : sProp 𝕄)
      ⊢ sSlot c j (sendV part c) := by
  rw [read_rows (ahead c j) _ (k0_off1_eq c j)]
  refine Entails.of_eq (pointsTo_congr fun i hi => ?_)
  rw [slot2_set] at hi
  exact write_slot2 part j f c i hi

theorem step_pack (harg8 : (Memref.whole cc0_scratch2).IsWhole) (c : Dev nD) (j : Fin 31) :
    iprop(emp ∗ (∃ f, sSlot c j f) ∗ pt c cc0_scratch0 (part c))
      ⊢ runs c (stPack (Memref.whole cc0_scratch0) (Memref.whole cc0_scratch2) harg8 c j) iprop(sSlot c j (sendV part c) ∗ pt c cc0_scratch0 (part c)) := by
  unfold runs stPack
  simp only [Prog.bind_lift]
  iintro ⟨-, ⟨%f, Hs⟩, Hp⟩
  iapply (wp_load 𝒱₀ (c : Thread nD τ) none Set.univ (m := Memref.whole cc0_scratch0) (S := Finset.univ) (q := fullShare) (f := part c) (Finset.subset_univ _)) $$ Hp
  iintro Hp
  iapply (wp_load_rect 𝒱₀ (c : Thread nD τ) none Set.univ (m := Memref.whole cc0_scratch2) (r := slotRect j) (S := (slot (Memref.whole cc0_scratch2) j).view.set)
    (q := fullShare) (f := f) (by rw [access2_set])) $$ Hs
  iintro Hs
  iapply (wp_store 𝒱₀ (c : Thread nD τ) none Set.univ (m := Memref.whole cc0_scratch2) (r := slotRect j) (S := (slot (Memref.whole cc0_scratch2) j).view.set)
    (f := f) (by rw [← access2_set]; exact Finset.Subset.refl _)) $$ Hs
  iintro Hs
  rw [wp_ret]; imodintro
  isplitr [Hp]
  · iapply (packed part f c j) $$ Hs
  iexact Hp

/-! ## The copies -/

theorem credit2 (j : Fin 31) : (slot (Memref.whole cc0_scratch2) j).view.dmaCredit = N := rfl
theorem credit3 (j : Fin 31) : (slot (Memref.whole cc0_scratch3) j).view.dmaCredit = N := rfl
theorem credit5 (j : Fin 31) : (slot (Memref.whole cc0_scratch5) j).view.dmaCredit = N := rfl

/-- What copy `j` of the first exchange takes. -/
def send1A (c : Dev nD) (j : Fin 31) : sProp 𝕄 :=
  iprop(sSlot c j (sendV part c) ∗ (∃ f, gSlot (ahead c j) j f) ∗ reached ER (xcell (ahead c j) 1 j) 0
    ∗ dutyTok ER (xcell c 0 j) 0 0 ∗ dutyTok ER (xcell (ahead c j) 1 j) 0 0)

/-- Copy `j` of the first exchange, to the device ahead. -/
theorem copy1 (c : Dev nD) (j : Fin 31) (d : Dev nD) (hd : d = ahead c j) {hs : (slot (Memref.whole cc0_scratch2) j).view.WordExact} {ht : (slot (Memref.whole cc0_scratch3) j).view.WordExact}
    {hsc : (slot (Memref.whole cc0_scratch3) j).view.ref.isScScratch = false}
    {hty : DmaTarget.Typed (sig := sig) (nD := nD) (τ := τ) (p := .tc) .vmem (.dma (semAt cc0_scratch7 j)) (.remote (Dev.tc d) (slot (Memref.whole cc0_scratch3) j) (.dma (semAt cc0_scratch6 j)) hsc)} :
    iprop((records part K ∗ opened c 0) ∗ send1A part c j ∗ owing c (ow2 c 0 + ow1 c j.val))
      ⊢ runs c (.op (.enqueueDma (slot (Memref.whole cc0_scratch2) j) (.remote (Dev.tc d) (slot (Memref.whole cc0_scratch3) j) (.dma (semAt cc0_scratch6 j)) hsc)
          (.dma (semAt cc0_scratch7 j)) hs ht hty) .ret)
        iprop(cred (tallyAt (xcell c 0 j) () N) ∗ owing c (ow2 c 0 + ow1 c (j.val + 1))) := by
  subst hd
  unfold runs send1A
  iintro ⟨⟨#HR, #H0⟩, ⟨Hs, ⟨%fd, Hg⟩, #Hrd, HtS, HtD⟩, ⟨%W, HO⟩⟩
  iapply (Rounds.wp_send_pointsTo 𝒱₀ ER (sched part) (c : Thread nD τ) none (c' := (ahead c j : Thread nD τ)) (src := slot (Memref.whole cc0_scratch2) j)
      (dst := slot (Memref.whole cc0_scratch3) j) (sS := xsem 0 j) (sem := xsem 1 j) (q := fullShare) (fs := sendV part c)
      (κ₁ := K (xcell c 0 j)) (κ₂ := K (xcell (ahead c j) 1 j)) (r₁ := 0) (r₂ := 0) (d₁ := 0) (d₂ := 0) (fd := fd)
      (mem_x part c j 0) (mem_x part (ahead c j) j 1) () () N (credit3 j) (amount_x part c j 0 0) (amount_x part (ahead c j) j 1 0)
      (O₀ := ow2 c 0 + ow1 c j.val) (ow2 c 0 + ow1 c (j.val + 1)) (by rw [ow1_step, ← add_assoc]) (W := W)
      (by rw [payload_0]; exact BI.Entails.refl _)
      (by rw [payload_1]; unfold recv1Pay
          exact Entails.of_eq (pointsTo_congr fun i hi => land1 part j c fd i (by rw [← slot3_set]; exact hi)))) $$ [Hs Hg HO HtS HtD]
  · isplitr; · iapply (inv_x part K c 0 j); iexact HR
    isplitr; · iapply (inv_x part K (ahead c j) 1 j); iexact HR
    isplitl [Hs]; · iexact Hs
    isplitl [Hg]; · iexact Hg
    isplitl [HO]; · iexact HO
    isplitl [HtS]; · iexact HtS
    isplitr; · iapply (opened_at c 0 j); iexact H0
    isplitl [HtD]; · iexact HtD
    iexact Hrd
  iintro ⟨Hc, HO⟩
  rw [wp_ret]; imodintro
  isplitl [Hc]; · iexact Hc
  iexists W; iexact HO

theorem step_send1 (h8 : (Memref.whole cc0_scratch2).IsWhole) (h9 : (Memref.whole cc0_scratch3).IsWhole) (c : Dev nD) (j : Fin 31) :
    iprop((records part K ∗ opened c 0) ∗ send1A part c j ∗ owing c (ow2 c 0 + ow1 c j.val))
      ⊢ runs c (stSend1 (Memref.whole cc0_scratch2) h8 (Memref.whole cc0_scratch3) h9 cc0_scratch6 cc0_scratch7 c j)
        iprop(cred (tallyAt (xcell c 0 j) () N) ∗ owing c (ow2 c 0 + ow1 c (j.val + 1))) :=
  copy1 part K c j _ (devTo_ahead c j)

/-- What copy `j` of the second exchange takes. -/
def send2A (c : Dev nD) (j : Fin 31) : sProp 𝕄 :=
  iprop(redPts c (redShare j) (redV part c) ∗ (∃ f, rSlot (ahead c j) j f) ∗ reached ER (xcell (ahead c j) 3 j) 0
    ∗ dutyTok ER (xcell c 2 j) 0 0 ∗ dutyTok ER (xcell (ahead c j) 3 j) 0 0)

/-- Copy `j` of the second exchange, to the device ahead. -/
theorem copy2 (c : Dev nD) (j : Fin 31) (d : Dev nD) (hd : d = ahead c j) {hs : (Memref.whole cc0_scratch4).view.WordExact} {ht : (slot (Memref.whole cc0_scratch5) j).view.WordExact}
    {hsc : (slot (Memref.whole cc0_scratch5) j).view.ref.isScScratch = false}
    {hty : DmaTarget.Typed (sig := sig) (nD := nD) (τ := τ) (p := .tc) .vmem (.dma (semAt cc0_scratch9 j)) (.remote (Dev.tc d) (slot (Memref.whole cc0_scratch5) j) (.dma (semAt cc0_scratch8 j)) hsc)} :
    iprop((records part K ∗ opened c 2) ∗ send2A part c j ∗ owing c (ow2 c j.val))
      ⊢ runs c (.op (.enqueueDma (Memref.whole cc0_scratch4) (.remote (Dev.tc d) (slot (Memref.whole cc0_scratch5) j) (.dma (semAt cc0_scratch8 j)) hsc)
          (.dma (semAt cc0_scratch9 j)) hs ht hty) .ret)
        iprop(cred (tallyAt (xcell c 2 j) () N) ∗ owing c (ow2 c (j.val + 1))) := by
  subst hd
  unfold runs send2A
  iintro ⟨⟨#HR, #H0⟩, ⟨Hs, ⟨%fd, Hg⟩, #Hrd, HtS, HtD⟩, ⟨%W, HO⟩⟩
  iapply (Rounds.wp_send_pointsTo 𝒱₀ ER (sched part) (c : Thread nD τ) none (c' := (ahead c j : Thread nD τ)) (src := Memref.whole cc0_scratch4)
      (dst := slot (Memref.whole cc0_scratch5) j) (sS := xsem 2 j) (sem := xsem 3 j) (q := redShare j) (fs := redV part c)
      (κ₁ := K (xcell c 2 j)) (κ₂ := K (xcell (ahead c j) 3 j)) (r₁ := 0) (r₂ := 0) (d₁ := 0) (d₂ := 0) (fd := fd)
      (mem_x part c j 2) (mem_x part (ahead c j) j 3) () () N (credit5 j) (amount_x part c j 2 0) (amount_x part (ahead c j) j 3 0)
      (ow2 c (j.val + 1)) (ow2_step c j) (W := W)
      (by rw [payload_2]; exact BI.Entails.refl _)
      (by rw [payload_3]; unfold recv2Pay
          exact Entails.of_eq (pointsTo_congr fun i hi => land2 part j c fd i (by rw [← slot5_set]; exact hi)))) $$ [Hs Hg HO HtS HtD]
  · isplitr; · iapply (inv_x part K c 2 j); iexact HR
    isplitr; · iapply (inv_x part K (ahead c j) 3 j); iexact HR
    isplitl [Hs]; · iexact Hs
    isplitl [Hg]; · iexact Hg
    isplitl [HO]; · iexact HO
    isplitl [HtS]; · iexact HtS
    isplitr; · iapply (opened_at c 2 j); iexact H0
    isplitl [HtD]; · iexact HtD
    iexact Hrd
  iintro ⟨Hc, HO⟩
  rw [wp_ret]; imodintro
  isplitl [Hc]; · iexact Hc
  iexists W; iexact HO

theorem step_send2 (h10 : (Memref.whole cc0_scratch4).IsWhole) (h11 : (Memref.whole cc0_scratch5).IsWhole) (c : Dev nD) (j : Fin 31) :
    iprop((records part K ∗ opened c 2) ∗ send2A part c j ∗ owing c (ow2 c j.val))
      ⊢ runs c (stSend2 (Memref.whole cc0_scratch4) h10 (Memref.whole cc0_scratch5) h11 cc0_scratch8 cc0_scratch9 c j)
        iprop(cred (tallyAt (xcell c 2 j) () N) ∗ owing c (ow2 c (j.val + 1))) :=
  copy2 part K c j _ (devTo_ahead c j)

/-! ## The waits -/

/-- What the wait on cell `j` of array `k` takes: the credit, and the device's place in the cell's round. -/
def waitA (c : Dev nD) (k : Fin 4) (j : Fin 31) : sProp 𝕄 := iprop(cred (tallyAt (xcell c k j) () N) ∗ atPos ER (xcell c k j) 0 ∅ 0)

/-- A wait on cell `j` of array `k`, at the head of a program: the payload comes, and the cell is closed. -/
theorem wait_x (c : Dev nD) (k : Fin 4) (j : Fin 31) (O : CellTallies nD τ sig Unit) (Q : sProp 𝕄)
    {s : Shape} {e : EltTy} {sp sp' : Space} {src : Memref sig .tc sp s e} {dst : Memref sig .tc sp' s e} {hs : src.view.WordExact} {hd : dst.view.WordExact}
    (hN : dst.view.dmaCredit = N) (k' : PUnit → Prog (TpuEff nD τ sig (Elt F) Λ₀ .tc) PUnit) :
    iprop(records part K ∗ waitA c k j ∗ MayWait (c : Thread nD τ) (xsem k j) () O ∗ owing c O
        ∗ ((semVal (xcell c k j) 0 ∗ (sched part).payload (xcell c k j) 0 0 ∗ owing c O) -∗ runs c (k' ⟨⟩) Q))
      ⊢ runs c (.op (.waitDma2 (semAt (arr k) j) src dst hs hd) k') Q := by
  unfold waitA
  iintro ⟨#HR, ⟨Hc, Hat⟩, Hmw, ⟨%W, HO⟩, Hk⟩
  iapply (Rounds.wp_wait_rest_token 𝒱₀ ER (sched part) (c : Thread nD τ) none (κ := K (xcell c k j))
      (wpE_waitDma2_eq (src := src) (dst := dst) 𝒱₀ (c : Thread nD τ) none Set.univ) (Set.mem_univ _) () (O := O) (W := W) (R := 0) (m := 0) (T := ∅)
      ((Nat.zero_add _).trans (hN.trans (expect_x part c j k).symm))) $$ [Hc HO Hat Hmw]
  · isplitr; · iapply (inv_x part K c k j); iexact HR
    isplitl [Hc]; · rw [hN]; iexact Hc
    isplitl [HO]; · iexact HO
    isplitl [Hmw]; · iexact Hmw
    iexact Hat
  iintro ⟨HO, Hat, -, Hpay⟩
  ihave Hp := (Entails.of_eq (rest_x part c j k)) $$ Hpay
  imod (close part (K (xcell c k j)) (xcell c k j)) $$ [Hat] with Hv
  · isplitr; · iapply (inv_x part K c k j); iexact HR
    iexact Hat
  iapply Hk
  isplitl [Hv]; · iexact Hv
  isplitl [Hp]; · iexact Hp
  iexists _; iexact HO

theorem step_recv1 (h8 : (Memref.whole cc0_scratch2).IsWhole) (h9 : (Memref.whole cc0_scratch3).IsWhole) (c : Dev nD) (j : Fin 31) :
    iprop((records part K ∗ levAts L lv) ∗ waitA c 1 j ∗ owing c (ow2 c 0))
      ⊢ runs c (stRecv1 (Memref.whole cc0_scratch2) h8 (Memref.whole cc0_scratch3) h9 cc0_scratch7 j)
        iprop((semVal (xcell c 1 j) 0 ∗ gSlot c j (gathV part c)) ∗ owing c (ow2 c 0)) := by
  unfold stRecv1 Prog.lift
  iintro ⟨⟨#HR, #Hlev⟩, Hw, HO⟩
  iapply (wait_x part K c 1 j (ow2 c 0) _ (credit3 j) .ret)
  isplitr; · iexact HR
  isplitl [Hw]; · iexact Hw
  isplitr; · iapply (mayWait_1 c j); iexact Hlev
  isplitl [HO]; · iexact HO
  rw [payload_1]; unfold recv1Pay runs; rw [wp_ret]
  iintro ⟨Hv, Hp, HO⟩
  imodintro
  isplitr [HO]
  · isplitl [Hv] <;> iassumption
  iexact HO

theorem step_done1 (h8 : (Memref.whole cc0_scratch2).IsWhole) (h9 : (Memref.whole cc0_scratch3).IsWhole) (c : Dev nD) (j : Fin 31) :
    iprop(records part K ∗ waitA c 0 j ∗ owing c 0)
      ⊢ runs c (stDone1 (Memref.whole cc0_scratch2) h8 (Memref.whole cc0_scratch3) h9 cc0_scratch6 j)
        iprop((semVal (xcell c 0 j) 0 ∗ sSlot c j (sendV part c)) ∗ owing c 0) := by
  unfold stDone1 Prog.lift
  iintro ⟨#HR, Hw, HO⟩
  iapply (wait_x part K c 0 j 0 _ (credit2 j) .ret)
  isplitr; · iexact HR
  isplitl [Hw]; · iexact Hw
  isplitr; · rw [MayWait_zero]; iempintro
  isplitl [HO]; · iexact HO
  rw [payload_0]; unfold send1Pay runs; rw [wp_ret]
  iintro ⟨Hv, Hp, HO⟩
  imodintro
  isplitr [HO]
  · isplitl [Hv] <;> iassumption
  iexact HO

theorem step_done2 (h10 : (Memref.whole cc0_scratch4).IsWhole) (h11 : (Memref.whole cc0_scratch5).IsWhole) (c : Dev nD) (j : Fin 31) :
    iprop(records part K ∗ waitA c 2 j ∗ owing c 0)
      ⊢ runs c (stDone2 (Memref.whole cc0_scratch4) h10 (Memref.whole cc0_scratch5) h11 cc0_scratch8 j)
        iprop((semVal (xcell c 2 j) 0 ∗ redPts c (redShare j) (redV part c)) ∗ owing c 0) := by
  unfold stDone2 Prog.lift
  iintro ⟨#HR, Hw, HO⟩
  iapply (wait_x part K c 2 j 0 _ rfl .ret)
  isplitr; · iexact HR
  isplitl [Hw]; · iexact Hw
  isplitr; · rw [MayWait_zero]; iempintro
  isplitl [HO]; · iexact HO
  rw [payload_2]; unfold send2Pay runs; rw [wp_ret]
  iintro ⟨Hv, Hp, HO⟩
  imodintro
  isplitr [HO]
  · isplitl [Hv] <;> iassumption
  iexact HO

/-- The result once its own rows and the rows of `k` devices behind are in place. -/
def outPts (c : Dev nD) (k : ℕ) : sProp 𝕄 :=
  iprop(∃ f : FVec F S512x512 .bf16, pt c cc0_stg5_0 f ∗ ⌜∀ i : S512x512.Idx, (ownerOf (i 0) = c ∨ ∃ j : Fin 31, j.val < k ∧ ownerOf (i 0) = behind c j) → f i = outV part i⌝)

theorem step_recv2 (h5 : (Memref.whole cc0_stg5_0).IsWhole) (h10 : (Memref.whole cc0_scratch4).IsWhole) (h11 : (Memref.whole cc0_scratch5).IsWhole) (c : Dev nD) (j : Fin 31) :
    iprop(records part K ∗ waitA c 3 j ∗ (outPts part c j.val ∗ owing c 0))
      ⊢ runs c (stRecv2 (Memref.whole cc0_stg5_0) h5 (Memref.whole cc0_scratch4) h10 (Memref.whole cc0_scratch5) h11 cc0_scratch9 c j)
        iprop((semVal (xcell c 3 j) 0 ∗ rSlot c j (rgathV part c)) ∗ (outPts part c (j.val + 1) ∗ owing c 0)) := by
  unfold stRecv2
  simp only [Prog.bind_lift]
  unfold outPts
  iintro ⟨#HR, Hw, ⟨%f, Hf, %hf⟩, HO⟩
  iapply (wait_x part K c 3 j 0 _ (credit5 j) _)
  isplitr; · iexact HR
  isplitl [Hw]; · iexact Hw
  isplitr; · rw [MayWait_zero]; iempintro
  isplitl [HO]; · iexact HO
  rw [payload_3]; unfold recv2Pay runs
  iintro ⟨Hv, Hp, HO⟩
  iapply (wp_load_rect 𝒱₀ (c : Thread nD τ) none Set.univ (m := Memref.whole cc0_scratch5) (r := slotRect j) (S := (slot (Memref.whole cc0_scratch5) j).view.set)
    (q := fullShare) (f := rgathV part c) (by rw [slot5_set]; exact (View.set_slice_whole _ _).le)) $$ Hp
  iintro Hp
  iapply (wp_load 𝒱₀ (c : Thread nD τ) none Set.univ (m := Memref.whole cc0_stg5_0) (S := Finset.univ) (q := fullShare) (f := f) (Finset.subset_univ _)) $$ Hf
  iintro Hf
  iapply (wp_store 𝒱₀ (c : Thread nD τ) none Set.univ (m := Memref.whole cc0_stg5_0)
    (r := Rect.unit (s := S512x512) (k0_off3 c (wordOf j)) S16x512.size (k0_off3_inb c j)) (S := Finset.univ) (f := f) (Finset.subset_univ _)) $$ Hf
  iintro Hf
  rw [wp_ret]; imodintro
  isplitl [Hv Hp]
  · isplitl [Hv] <;> iassumption
  isplitr [HO]
  · iexists _
    isplitl [Hf]; · iexact Hf
    ipureintro
    intro i hi
    refine (write_rows (behind c j) _ (k0_off3_eq c j) _ f _ i).trans ?_
    split
    · next ho =>
        have e : k0_pay49 (((Memref.whole cc0_scratch5).access (slotRect j)).read (Elt F) (rgathV part c)) = redV part (behind c j) := read_slot5 part j c
        rw [e]; unfold outV; rw [ho]
    · next ho =>
        refine hf i (hi.imp id ?_)
        rintro ⟨j', hj', hb⟩
        refine ⟨j', ?_, hb⟩
        rcases Nat.lt_succ_iff_lt_or_eq.mp hj' with h | h
        · exact h
        · exact absurd (by rw [hb, Fin.ext h]) ho
  iexact HO

end Cert.KernelIdeal.Run

end
-- ==== Proof.Attend.lean ====
/-
  The two straight pieces of the body: the device's own attention block, with the partial product it leaves, and the reduction of the gathered rows.
-/
module

public import proofs.«01_k».proof.Proof.Steps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## What the block computes -/

/-- One head of an array of four. -/
def headOf (h : Fin 4) (f : FVec F S512x4x64 .bf16) : FVec F S512x1x64 .bf16 := fun i => f (ix3 (i 0) h (i 2))

/-- What one head writes into the context. -/
def headV (x : FVec F S512x512 .bf16) (wq : FVec F S512x256 .bf16) (k v : FVec F S512x4x64 .bf16) (h : Fin 4) : FVec F S512x64 .bf16 :=
  match h with
  | 0 => k0_pay8 (k0_pay6 (headOf 0 v)) (k0_pay7 (k0_pay1 x wq) k0_pay2 k0_pay3 k0_pay4 (headOf 0 k))
  | 1 => k0_pay9 (k0_pay1 x wq) (k0_pay5 k0_pay2 k0_pay3 k0_pay4) (headOf 1 k) (headOf 1 v)
  | 2 => k0_pay11 (k0_pay5 k0_pay2 k0_pay3 k0_pay4) (k0_pay10 (k0_pay1 x wq)) (headOf 2 k) (headOf 2 v)
  | 3 => k0_pay14 (k0_pay12 (headOf 3 v)) (k0_pay13 (k0_pay1 x wq) (k0_pay5 k0_pay2 k0_pay3 k0_pay4) (headOf 3 k))

/-- The head a column of the context belongs to, and its place in the head. -/
def headNo (x : Fin 256) : Fin 4 := ⟨x.val / 64, by omega⟩
def inHead (x : Fin 256) : Fin 64 := ⟨x.val % 64, Nat.mod_lt _ (by decide)⟩

/-- The context: the four heads side by side. -/
def ctxV (x : FVec F S512x512 .bf16) (wq : FVec F S512x256 .bf16) (k v : FVec F S512x4x64 .bf16) : FVec F S512x256 .bf16 :=
  fun i => headV x wq k v (headNo (i 1)) (ix2 (i 0) (inHead (i 1)))

/-- The partial product. -/
def partV (x : FVec F S512x512 .bf16) (wq : FVec F S512x256 .bf16) (k v : FVec F S512x4x64 .bf16) (wo : FVec F S256x512 .bf16) : FVec F S512x512 .bf16 :=
  k0_pay15 (ctxV x wq k v) wo

/-! ## Reads and writes -/

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

theorem read_x (f : FVec F S512x512 .bf16) :
    (Memref.whole cc0_stg0_0).view.readAt (Elt F) (Rect.unit (s := S512x512) ![0, 0] S512x512.size inb_S512x512_S512x512_0_0).toLoadRect f = f :=
  Memref.readAt_unit_zero (Elt F) cc0_stg0_0 zero2 inb_S512x512_S512x512_0_0 f
theorem read_wq (f : FVec F S512x256 .bf16) :
    (Memref.whole cc0_stg1_0).view.readAt (Elt F) (Rect.unit (s := S512x256) ![0, 0] S512x256.size inb_S512x256_S512x256_0_0).toLoadRect f = f :=
  Memref.readAt_unit_zero (Elt F) cc0_stg1_0 zero2 inb_S512x256_S512x256_0_0 f
theorem read_wo (f : FVec F S256x512 .bf16) :
    (Memref.whole cc0_stg4_0).view.readAt (Elt F) (Rect.unit (s := S256x512) ![0, 0] S256x512.size inb_S256x512_S256x512_0_0).toLoadRect f = f :=
  Memref.readAt_unit_zero (Elt F) cc0_stg4_0 zero2 inb_S256x512_S256x512_0_0 f
theorem read_ctx (f : FVec F S512x256 .bf16) :
    (Memref.whole cc0_scratch1).view.readAt (Elt F) (Rect.unit (s := S512x256) ![0, 0] S512x256.size inb_S512x256_S512x256_0_0).toLoadRect f = f :=
  Memref.readAt_unit_zero (Elt F) cc0_scratch1 zero2 inb_S512x256_S512x256_0_0 f
theorem read_gath (f : FVec F S31x16x512 .bf16) :
    (Memref.whole cc0_scratch3).view.readAt (Elt F) (Rect.unit (s := S31x16x512) ![0, 0, 0] S31x16x512.size inb_S31x16x512_S31x16x512_0_0_0).toLoadRect f = f :=
  Memref.readAt_unit_zero (Elt F) cc0_scratch3 zero3 inb_S31x16x512_S31x16x512_0_0_0 f
theorem write_part (f w : FVec F S512x512 .bf16) :
    ((Memref.whole cc0_scratch0).access (Rect.unit (s := S512x512) ![0, 0] S512x512.size inb_S512x512_S512x512_0_0)).write (Elt F) f w Finset.univ = w :=
  Memref.write_access_unit_zero_univ (Elt F) cc0_scratch0 zero2 inb_S512x512_S512x512_0_0 f w
theorem write_red (f w : FVec F S16x512 .bf16) :
    ((Memref.whole cc0_scratch4).access (Rect.unit (s := S16x512) ![0, 0] S16x512.size inb_S16x512_S16x512_0_0)).write (Elt F) f w Finset.univ = w :=
  Memref.write_access_unit_zero_univ (Elt F) cc0_scratch4 zero2 inb_S16x512_S16x512_0_0 f w

theorem read_head (h : Fin 4) (n : ℕ) (hn : n = h.val) (hi : ∀ a, (![0, n, 0] : Fin 3 → ℕ) a + S512x1x64.size a ≤ S512x4x64.size a) (f : FVec F S512x4x64 .bf16) :
    (fun i => f ((headRect n hi).emb i) : FVec F S512x1x64 .bf16) = headOf h f := by
  subst hn
  funext i
  show f _ = f _
  congr 1; funext a
  match a with
  | ⟨0, _⟩ => exact Fin.ext (by show 0 + 1 * (i 0).val = (i 0).val; omega)
  | ⟨1, _⟩ => exact Fin.ext (by show h.val + 1 * (i 1).val = h.val; have : (i 1).val < 1 := (i 1).isLt; omega)
  | ⟨2, _⟩ => exact Fin.ext (by show 0 + 1 * (i 2).val = (i 2).val; omega)

theorem read_k (h : Fin 4) (n : ℕ) (hn : n = h.val) (hi : ∀ a, (![0, n, 0] : Fin 3 → ℕ) a + S512x1x64.size a ≤ S512x4x64.size a) (f : FVec F S512x4x64 .bf16) :
    (Memref.whole cc0_stg2_0).view.readAt (Elt F) (headRect n hi).toLoadRect f = headOf h f := read_head h n hn hi f
theorem read_v (h : Fin 4) (n : ℕ) (hn : n = h.val) (hi : ∀ a, (![0, n, 0] : Fin 3 → ℕ) a + S512x1x64.size a ≤ S512x4x64.size a) (f : FVec F S512x4x64 .bf16) :
    (Memref.whole cc0_stg3_0).view.readAt (Elt F) (headRect n hi).toLoadRect f = headOf h f := read_head h n hn hi f

/-- The context with one head replaced. -/
def putHead (h : Fin 4) (w : FVec F S512x64 .bf16) (f : FVec F S512x256 .bf16) : FVec F S512x256 .bf16 :=
  fun i => if headNo (i 1) = h then w (ix2 (i 0) (inHead (i 1))) else f i

theorem write_head (h : Fin 4) (n : ℕ) (hn : n = 64 * h.val) (inb : ∀ a, (![0, n] : Fin 2 → ℕ) a + S512x64.size a ≤ S512x256.size a) (f : FVec F S512x256 .bf16) (w : FVec F S512x64 .bf16) :
    ((Memref.whole cc0_scratch1).access (Rect.unit (s := S512x256) ![0, n] S512x64.size inb)).write (Elt F) f w Finset.univ = putHead h w f := by
  subst hn
  funext i
  unfold putHead
  split
  · next hh =>
      have he : i = ((Memref.whole cc0_scratch1).access (Rect.unit (s := S512x256) ![0, 64 * h.val] S512x64.size inb)).emb (ix2 (i 0) (inHead (i 1))) := by
        funext a
        match a with
        | ⟨0, _⟩ => exact Fin.ext (by show (i 0).val = 0 + 1 * (i 0).val; omega)
        | ⟨1, _⟩ =>
            refine Fin.ext ?_
            show (i 1).val = 64 * h.val + 1 * ((i 1).val % 64)
            have hv : (i 1).val / 64 = h.val := congrArg Fin.val hh
            omega
      conv_lhs => rw [he]
      rw [View.write_emb_of_mem _ _ (Finset.mem_univ _)]; rfl
  · next hh =>
      refine View.write_of_not_mem _ _ _ ?_
      intro hm
      apply hh
      obtain ⟨x, -, hx⟩ := Finset.mem_map.mp hm
      apply Fin.ext
      show (i 1).val / 64 = h.val
      rw [← hx]
      have : (x 1).val < 64 := (x 1).isLt
      show (64 * h.val + 1 * (x 1).val) / 64 = h.val
      omega

/-- With the four heads in, nothing of the earlier contents is left. -/
theorem put_all (x : FVec F S512x512 .bf16) (wq : FVec F S512x256 .bf16) (k v : FVec F S512x4x64 .bf16) (f : FVec F S512x256 .bf16) :
    putHead 3 (headV x wq k v 3) (putHead 2 (headV x wq k v 2) (putHead 1 (headV x wq k v 1) (putHead 0 (headV x wq k v 0) f))) = ctxV x wq k v := by
  funext i
  unfold putHead ctxV
  have h : ∀ h : Fin 4, h = 0 ∨ h = 1 ∨ h = 2 ∨ h = 3 := by decide
  rcases h (headNo (i 1)) with h | h | h | h <;> rw [h] <;> rfl

/-! ## The two pieces -/

set_option maxHeartbeats 2000000 in
/-- The loads and the partial product. -/
theorem step_attend (h6 : (Memref.whole cc0_scratch0).IsWhole) (h7 : (Memref.whole cc0_scratch1).IsWhole) (c : Dev nD)
    (x : FVec F S512x512 .bf16) (wq : FVec F S512x256 .bf16) (k v : FVec F S512x4x64 .bf16) (wo : FVec F S256x512 .bf16) :
    iprop((pt c cc0_stg0_0 x ∗ pt c cc0_stg1_0 wq ∗ pt c cc0_stg2_0 k ∗ pt c cc0_stg3_0 v ∗ pt c cc0_stg4_0 wo) ∗ (∃ f, pt c cc0_scratch0 f) ∗ ∃ f, pt c cc0_scratch1 f)
      ⊢ runs c (stAttend (Memref.whole cc0_stg0_0) (Memref.whole cc0_stg1_0) (Memref.whole cc0_stg2_0) (Memref.whole cc0_stg3_0) (Memref.whole cc0_stg4_0)
          (Memref.whole cc0_scratch0) h6 (Memref.whole cc0_scratch1) h7)
        iprop((pt c cc0_stg0_0 x ∗ pt c cc0_stg1_0 wq ∗ pt c cc0_stg2_0 k ∗ pt c cc0_stg3_0 v ∗ pt c cc0_stg4_0 wo) ∗ pt c cc0_scratch0 (partV x wq k v wo) ∗ ∃ f, pt c cc0_scratch1 f) := by
  unfold runs stAttend
  simp only [Prog.bind_lift]
  iintro ⟨⟨Hx, Hwq, Hk, Hv, Hwo⟩, ⟨%f6, H6⟩, ⟨%f7, H7⟩⟩
  iapply (wp_load 𝒱₀ (c : Thread nD τ) none Set.univ (m := Memref.whole cc0_stg0_0) (S := Finset.univ) (Finset.subset_univ _)) $$ Hx
  iintro Hx
  iapply (wp_load 𝒱₀ (c : Thread nD τ) none Set.univ (m := Memref.whole cc0_stg1_0) (S := Finset.univ) (Finset.subset_univ _)) $$ Hwq
  iintro Hwq
  rw [read_x, read_wq]
  iapply (wp_load 𝒱₀ (c : Thread nD τ) none Set.univ (m := Memref.whole cc0_stg2_0) (S := Finset.univ) (Finset.subset_univ _)) $$ Hk
  iintro Hk
  iapply (wp_load 𝒱₀ (c : Thread nD τ) none Set.univ (m := Memref.whole cc0_stg3_0) (S := Finset.univ) (Finset.subset_univ _)) $$ Hv
  iintro Hv
  iapply (wp_load 𝒱₀ (c : Thread nD τ) none Set.univ (m := Memref.whole cc0_scratch1) (S := Finset.univ) (Finset.subset_univ _)) $$ H7
  iintro H7
  iapply (wp_store 𝒱₀ (c : Thread nD τ) none Set.univ (m := Memref.whole cc0_scratch1) (r := Rect.unit (s := S512x256) ![0, 0] S512x64.size inb_S512x256_S512x64_0_0) (S := Finset.univ) (Finset.subset_univ _)) $$ H7
  iintro H7
  rw [read_k 0 0 rfl, read_v 0 0 rfl, write_head 0 0 rfl]
  iapply (wp_load 𝒱₀ (c : Thread nD τ) none Set.univ (m := Memref.whole cc0_stg2_0) (S := Finset.univ) (Finset.subset_univ _)) $$ Hk
  iintro Hk
  iapply (wp_load 𝒱₀ (c : Thread nD τ) none Set.univ (m := Memref.whole cc0_stg3_0) (S := Finset.univ) (Finset.subset_univ _)) $$ Hv
  iintro Hv
  iapply (wp_load 𝒱₀ (c : Thread nD τ) none Set.univ (m := Memref.whole cc0_scratch1) (S := Finset.univ) (Finset.subset_univ _)) $$ H7
  iintro H7
  iapply (wp_store 𝒱₀ (c : Thread nD τ) none Set.univ (m := Memref.whole cc0_scratch1) (r := Rect.unit (s := S512x256) ![0, 64] S512x64.size inb_S512x256_S512x64_0_64) (S := Finset.univ) (Finset.subset_univ _)) $$ H7
  iintro H7
  rw [read_k 1 1 rfl, read_v 1 1 rfl, write_head 1 64 rfl]
  iapply (wp_load 𝒱₀ (c : Thread nD τ) none Set.univ (m := Memref.whole cc0_stg2_0) (S := Finset.univ) (Finset.subset_univ _)) $$ Hk
  iintro Hk
  iapply (wp_load 𝒱₀ (c : Thread nD τ) none Set.univ (m := Memref.whole cc0_stg3_0) (S := Finset.univ) (Finset.subset_univ _)) $$ Hv
  iintro Hv
  iapply (wp_load 𝒱₀ (c : Thread nD τ) none Set.univ (m := Memref.whole cc0_scratch1) (S := Finset.univ) (Finset.subset_univ _)) $$ H7
  iintro H7
  iapply (wp_store 𝒱₀ (c : Thread nD τ) none Set.univ (m := Memref.whole cc0_scratch1) (r := Rect.unit (s := S512x256) ![0, 128] S512x64.size inb_S512x256_S512x64_0_128) (S := Finset.univ) (Finset.subset_univ _)) $$ H7
  iintro H7
  rw [read_k 2 2 rfl, read_v 2 2 rfl, write_head 2 128 rfl]
  iapply (wp_load 𝒱₀ (c : Thread nD τ) none Set.univ (m := Memref.whole cc0_stg2_0) (S := Finset.univ) (Finset.subset_univ _)) $$ Hk
  iintro Hk
  iapply (wp_load 𝒱₀ (c : Thread nD τ) none Set.univ (m := Memref.whole cc0_stg3_0) (S := Finset.univ) (Finset.subset_univ _)) $$ Hv
  iintro Hv
  iapply (wp_load 𝒱₀ (c : Thread nD τ) none Set.univ (m := Memref.whole cc0_scratch1) (S := Finset.univ) (Finset.subset_univ _)) $$ H7
  iintro H7
  iapply (wp_store 𝒱₀ (c : Thread nD τ) none Set.univ (m := Memref.whole cc0_scratch1) (r := Rect.unit (s := S512x256) ![0, 192] S512x64.size inb_S512x256_S512x64_0_192) (S := Finset.univ) (Finset.subset_univ _)) $$ H7
  iintro H7
  rw [read_k 3 3 rfl, read_v 3 3 rfl, write_head 3 192 rfl]
  iapply (wp_load 𝒱₀ (c : Thread nD τ) none Set.univ (m := Memref.whole cc0_scratch1) (S := Finset.univ) (Finset.subset_univ _)) $$ H7
  iintro H7
  iapply (wp_load 𝒱₀ (c : Thread nD τ) none Set.univ (m := Memref.whole cc0_stg4_0) (S := Finset.univ) (Finset.subset_univ _)) $$ Hwo
  iintro Hwo
  iapply (wp_load 𝒱₀ (c : Thread nD τ) none Set.univ (m := Memref.whole cc0_scratch0) (S := Finset.univ) (Finset.subset_univ _)) $$ H6
  iintro H6
  iapply (wp_store 𝒱₀ (c : Thread nD τ) none Set.univ (m := Memref.whole cc0_scratch0) (r := Rect.unit (s := S512x512) ![0, 0] S512x512.size inb_S512x512_S512x512_0_0) (S := Finset.univ) (Finset.subset_univ _)) $$ H6
  iintro H6
  rw [read_ctx, read_wo, write_part]
  rw [wp_ret]; imodintro
  isplitl [Hx Hwq Hk Hv Hwo]
  · isplitl [Hx]; · iexact Hx
    isplitl [Hwq]; · iexact Hwq
    isplitl [Hk]; · iexact Hk
    isplitl [Hv]; · iexact Hv
    iexact Hwo
  isplitl [H6]
  · unfold partV; rw [← put_all x wq k v f7]; simp only [headV]; iexact H6
  iexists _; iexact H7

variable (part : Dev nD → FVec F S512x512 .bf16)

/-- The reduction: the sum goes to the buffer the second exchange sends, and to the device's own rows of the result. -/
theorem step_reduce (h5 : (Memref.whole cc0_stg5_0).IsWhole) (h10 : (Memref.whole cc0_scratch4).IsWhole) (c : Dev nD) :
    iprop(pt c cc0_scratch0 (part c) ∗ pt c cc0_scratch3 (gathV part c) ∗ (∃ f, pt c cc0_scratch4 f) ∗ ∃ f, pt c cc0_stg5_0 f)
      ⊢ runs c (stReduce (Memref.whole cc0_stg5_0) h5 (Memref.whole cc0_scratch0) (Memref.whole cc0_scratch3) (Memref.whole cc0_scratch4) h10 c)
        iprop(pt c cc0_scratch0 (part c) ∗ pt c cc0_scratch3 (gathV part c) ∗ pt c cc0_scratch4 (redV part c) ∗ outPts part c 0) := by
  unfold runs stReduce
  simp only [Prog.bind_lift]
  iintro ⟨H0, H3, ⟨%f4, H4⟩, ⟨%f5, H5⟩⟩
  iapply (wp_load 𝒱₀ (c : Thread nD τ) none Set.univ (m := Memref.whole cc0_scratch0) (S := Finset.univ) (Finset.subset_univ _)) $$ H0
  iintro H0
  iapply (wp_load 𝒱₀ (c : Thread nD τ) none Set.univ (m := Memref.whole cc0_scratch3) (S := Finset.univ) (Finset.subset_univ _)) $$ H3
  iintro H3
  rw [read_rows c _ (k0_off2_eq c), read_gath]
  iapply (wp_load 𝒱₀ (c : Thread nD τ) none Set.univ (m := Memref.whole cc0_scratch4) (S := Finset.univ) (Finset.subset_univ _)) $$ H4
  iintro H4
  iapply (wp_store 𝒱₀ (c : Thread nD τ) none Set.univ (m := Memref.whole cc0_scratch4) (r := Rect.unit (s := S16x512) ![0, 0] S16x512.size inb_S16x512_S16x512_0_0) (S := Finset.univ) (Finset.subset_univ _)) $$ H4
  iintro H4
  rw [write_red]
  iapply (wp_load 𝒱₀ (c : Thread nD τ) none Set.univ (m := Memref.whole cc0_stg5_0) (S := Finset.univ) (Finset.subset_univ _)) $$ H5
  iintro H5
  iapply (wp_store 𝒱₀ (c : Thread nD τ) none Set.univ (m := Memref.whole cc0_stg5_0) (r := Rect.unit (s := S512x512) (k0_off2 c) S16x512.size (k0_off2_inb c)) (S := Finset.univ) (Finset.subset_univ _)) $$ H5
  iintro H5
  rw [wp_ret]; imodintro
  isplitl [H0]; · iexact H0
  isplitl [H3]; · iexact H3
  isplitl [H4]; · iexact H4
  unfold outPts
  iexists _
  isplitl [H5]; · iexact H5
  ipureintro
  intro i hi
  have ho : ownerOf (i 0) = c := hi.elim id (fun ⟨j, hj, _⟩ => absurd hj (Nat.not_lt_zero _))
  refine (write_rows c _ (k0_off2_eq c) _ f5 _ i).trans ?_
  rw [if_pos ho, pay47_eq]
  unfold outV redV
  rw [ho]; rfl

end Cert.KernelIdeal.Run

end
-- ==== Proof.Body.lean ====
/-
  The whole body of one device, from what it holds at the kernel's entry to what it holds at its exit.
-/
module

public import proofs.«01_k».proof.Proof.Attend

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Buffers and their slots -/

theorem slot2_disjoint (j j' : Fin 31) (h : j ≠ j') : Disjoint (slot (Memref.whole cc0_scratch2) j).view.set (slot (Memref.whole cc0_scratch2) j').view.set := by
  have hd := slots_disjoint j j' h
  rw [← slot2_set j, ← slot2_set j'] at hd
  exact hd
theorem slot2_cover : Finset.biUnion (β := S31x16x512.Idx) (Finset.univ : Finset (Fin 31)) (fun j => (slot (Memref.whole cc0_scratch2) j).view.set) = Finset.univ :=
  (congrArg (fun I : Fin 31 → Finset S31x16x512.Idx => Finset.univ.biUnion I) (funext slot2_set)).trans slots_cover.symm
theorem slot3_disjoint (j j' : Fin 31) (h : j ≠ j') : Disjoint (slot (Memref.whole cc0_scratch3) j).view.set (slot (Memref.whole cc0_scratch3) j').view.set := by
  have hd := slots_disjoint j j' h
  rw [← slot3_set j, ← slot3_set j'] at hd
  exact hd
theorem slot3_cover : Finset.biUnion (β := S31x16x512.Idx) (Finset.univ : Finset (Fin 31)) (fun j => (slot (Memref.whole cc0_scratch3) j).view.set) = Finset.univ :=
  (congrArg (fun I : Fin 31 → Finset S31x16x512.Idx => Finset.univ.biUnion I) (funext slot3_set)).trans slots_cover.symm
theorem slot5_disjoint (j j' : Fin 31) (h : j ≠ j') : Disjoint (slot (Memref.whole cc0_scratch5) j).view.set (slot (Memref.whole cc0_scratch5) j').view.set := by
  have hd := slots_disjoint j j' h
  rw [← slot5_set j, ← slot5_set j'] at hd
  exact hd
theorem slot5_cover : Finset.biUnion (β := S31x16x512.Idx) (Finset.univ : Finset (Fin 31)) (fun j => (slot (Memref.whole cc0_scratch5) j).view.set) = Finset.univ :=
  (congrArg (fun I : Fin 31 → Finset S31x16x512.Idx => Finset.univ.biUnion I) (funext slot5_set)).trans slots_cover.symm

/-- A buffer held whole is held slot by slot. -/
theorem by_slots {ℓ : Loc nD τ sig} (I : Fin 31 → Finset (Idx ℓ)) (hd : ∀ j j', j ≠ j' → Disjoint (I j) (I j')) (hc : Finset.univ.biUnion I = Finset.univ) (f : Buf (Elt F) ℓ) :
    (ℓ ↦{fullShare} f : sProp 𝕄) = bigSep Finset.univ fun j => ℓ ↦[I j]{fullShare} f := by
  rw [← pointsTo_biUnion Finset.univ I (fun b _ b' _ h => hd b b' h), hc]

theorem split2 (c : Dev nD) (f : FVec F S31x16x512 .bf16) : (pt c cc0_scratch2 f : sProp 𝕄) = bigSep Finset.univ fun j => sSlot c j f :=
  by_slots (ℓ := (Memref.whole cc0_scratch2).view.loc (c : Thread nD τ)) (fun j => (slot (Memref.whole cc0_scratch2) j).view.set) (slot2_disjoint) (slot2_cover) f
theorem split3 (c : Dev nD) (f : FVec F S31x16x512 .bf16) : (pt c cc0_scratch3 f : sProp 𝕄) = bigSep Finset.univ fun j => gSlot c j f :=
  by_slots (ℓ := (Memref.whole cc0_scratch3).view.loc (c : Thread nD τ)) (fun j => (slot (Memref.whole cc0_scratch3) j).view.set) (slot3_disjoint) (slot3_cover) f
theorem split5 (c : Dev nD) (f : FVec F S31x16x512 .bf16) : (pt c cc0_scratch5 f : sProp 𝕄) = bigSep Finset.univ fun j => rSlot c j f :=
  by_slots (ℓ := (Memref.whole cc0_scratch5).view.loc (c : Thread nD τ)) (fun j => (slot (Memref.whole cc0_scratch5) j).view.set) (slot5_disjoint) (slot5_cover) f

/-- A slot held at named contents is held at some. -/
theorem some_all {Φ : Fin 31 → FVec F S31x16x512 .bf16 → sProp 𝕄} (f : FVec F S31x16x512 .bf16) :
    (bigSep Finset.univ fun j => Φ j f) ⊢ bigSep Finset.univ fun j => iprop(∃ f, Φ j f) :=
  bigSep_mono fun j _ => by
    have h : iprop(Φ j f) ⊢ iprop(∃ f, Φ j f) := by iintro H; iexists f; iexact H
    exact h

theorem slots2 (c : Dev nD) : iprop(∃ f, pt c cc0_scratch2 f) ⊢ (bigSep Finset.univ fun j => iprop(∃ f, sSlot c j f) : sProp 𝕄) := by
  iintro ⟨%f, H⟩
  iapply ((Entails.of_eq (split2 c f)).trans (some_all (Φ := fun j f => sSlot c j f) f)); iexact H
theorem slots3 (c : Dev nD) : iprop(∃ f, pt c cc0_scratch3 f) ⊢ (bigSep Finset.univ fun j => iprop(∃ f, gSlot c j f) : sProp 𝕄) := by
  iintro ⟨%f, H⟩
  iapply ((Entails.of_eq (split3 c f)).trans (some_all (Φ := fun j f => gSlot c j f) f)); iexact H
theorem slots5 (c : Dev nD) : iprop(∃ f, pt c cc0_scratch5 f) ⊢ (bigSep Finset.univ fun j => iprop(∃ f, rSlot c j f) : sProp 𝕄) := by
  iintro ⟨%f, H⟩
  iapply ((Entails.of_eq (split5 c f)).trans (some_all (Φ := fun j f => rSlot c j f) f)); iexact H

/-- The reduced rows, cut into the shares the copies read. -/
theorem shares (c : Dev nD) (f : FVec F S16x512 .bf16) : (pt c cc0_scratch4 f : sProp 𝕄) = bigSep Finset.univ fun j => redPts c (redShare j) f := by
  have h := pointsTo_piecesOf (Val := Elt F) (Ix := Unit) (Name := ℕ) (U := UU) (Lvl := ℕ) (ℓ := (Memref.whole cc0_scratch4).view.loc (c : Thread nD τ)) (Memref.whole cc0_scratch4).view.set f (show 0 < 31 by decide) fullShare
  exact (congrArg (fun I => ((Memref.whole cc0_scratch4).view.loc (c : Thread nD τ) ↦[I]{fullShare} f : sProp 𝕄)) (View.set_whole cc0_scratch4).symm).trans h

/-! ## What a device brings and what it leaves -/

/-- The duties of its signals and of its copies. -/
def toks (c : Dev nD) : sProp 𝕄 :=
  iprop((bigSep Finset.univ fun j => dutyTok ER (barCell (ahead c j)) 0 j)
    ∗ (bigSep Finset.univ fun j => iprop(dutyTok ER (xcell c 0 j) 0 0 ∗ dutyTok ER (xcell (ahead c j) 1 j) 0 0))
    ∗ (bigSep Finset.univ fun j => iprop(dutyTok ER (xcell c 2 j) 0 0 ∗ dutyTok ER (xcell (ahead c j) 3 j) 0 0)))
/-- The credit for what the others send it. -/
def creds (c : Dev nD) : sProp 𝕄 :=
  iprop(cred (tallyAt (barCell c) () 31) ∗ (bigSep Finset.univ fun j => cred (tallyAt (xcell c 1 j) () N)) ∗ (bigSep Finset.univ fun j => cred (tallyAt (xcell c 3 j) () N)))
/-- One thing for each cell of the four arrays. -/
abbrev four (A : Fin 4 → Fin 31 → sProp 𝕄) : sProp 𝕄 :=
  iprop((bigSep Finset.univ fun j => A 0 j) ∗ (bigSep Finset.univ fun j => A 1 j) ∗ (bigSep Finset.univ fun j => A 2 j) ∗ (bigSep Finset.univ fun j => A 3 j))

theorem four_eq (A : Fin 4 → Fin 31 → sProp 𝕄) : (bigSep Finset.univ fun kj : Fin 4 × Fin 31 => A kj.1 kj.2) = four A :=
  (bigSep_univ_prod _).trans (bigSep_univ_eq_bigSepL [0, 1, 2, 3] (by decide) (by decide) fun k => bigSep Finset.univ fun j => A k j)

/-- Its places in its cells' rounds, and that its cells are open. -/
def places (c : Dev nD) : sProp 𝕄 := iprop(atPos ER (barCell c) 0 ∅ 0 ∗ four (fun k j => atPos ER (xcell c k j) 0 ∅ 0))
def openAll (c : Dev nD) : sProp 𝕄 := four (fun k j => reached ER (xcell c k j) 0)
/-- Every counter back at zero. -/
def zeros (c : Dev nD) : sProp 𝕄 := iprop(semVal (barCell c) 0 ∗ four (fun k j => semVal (xcell c k j) 0))

/-- The five inputs. -/
abbrev inputs (c : Dev nD) (x : FVec F S512x512 .bf16) (wq : FVec F S512x256 .bf16) (k v : FVec F S512x4x64 .bf16) (wo : FVec F S256x512 .bf16) : sProp 𝕄 :=
  iprop(pt c cc0_stg0_0 x ∗ pt c cc0_stg1_0 wq ∗ pt c cc0_stg2_0 k ∗ pt c cc0_stg3_0 v ∗ pt c cc0_stg4_0 wo)
/-- The six scratch buffers, whatever they hold. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f) ∗ ∃ f, pt c cc0_scratch5 f)

variable (part : Dev nD → FVec F S512x512 .bf16) (K : GSem nD τ sig → ℕ)

/-! ## What each loop takes, put together -/

theorem take_signal (c : Dev nD) :
    iprop((bigSep Finset.univ fun j => dutyTok ER (barCell (ahead c j)) 0 j) ∗ (∃ f, pt c cc0_scratch3 f) ∗ ∃ f, pt c cc0_scratch5 f)
      ⊢ (bigSep Finset.univ fun j => sigA c j : sProp 𝕄) := by
  unfold sigA
  rw [bigSep_sep', bigSep_sep']
  refine sep_mono_right (BI.sep_mono ?_ ?_)
  · exact (slots3 c).trans (Entails.of_eq (bigSep_univ_equiv Fin.revPerm (fun j => iprop(∃ f, gSlot c j f))))
  · exact (slots5 c).trans (Entails.of_eq (bigSep_univ_equiv Fin.revPerm (fun j => iprop(∃ f, rSlot c j f))))

theorem split_bar (c : Dev nD) : (bigSep Finset.univ fun j => fromBar c j : sProp 𝕄)
    = iprop((bigSep Finset.univ fun j => iprop(∃ f, gSlot (ahead c j) j f)) ∗ (bigSep Finset.univ fun j => iprop(∃ f, rSlot (ahead c j) j f))
        ∗ (bigSep Finset.univ fun j => reached ER (xcell (ahead c j) 1 j) 0) ∗ (bigSep Finset.univ fun j => reached ER (xcell (ahead c j) 3 j) 0)) := by
  unfold fromBar
  rw [bigSep_sep', bigSep_sep', bigSep_sep']

theorem take_send1 (c : Dev nD) : (bigSep Finset.univ fun j => send1A part c j)
    = iprop((bigSep Finset.univ fun j => sSlot c j (sendV part c)) ∗ (bigSep Finset.univ fun j => iprop(∃ f, gSlot (ahead c j) j f))
        ∗ (bigSep Finset.univ fun j => reached ER (xcell (ahead c j) 1 j) 0)
        ∗ (bigSep Finset.univ fun j => iprop(dutyTok ER (xcell c 0 j) 0 0 ∗ dutyTok ER (xcell (ahead c j) 1 j) 0 0))) := by
  unfold send1A
  rw [bigSep_sep', bigSep_sep', bigSep_sep']

theorem take_send2 (c : Dev nD) : (bigSep Finset.univ fun j => send2A part c j)
    = iprop((bigSep Finset.univ fun j => redPts c (redShare j) (redV part c)) ∗ (bigSep Finset.univ fun j => iprop(∃ f, rSlot (ahead c j) j f))
        ∗ (bigSep Finset.univ fun j => reached ER (xcell (ahead c j) 3 j) 0)
        ∗ (bigSep Finset.univ fun j => iprop(dutyTok ER (xcell c 2 j) 0 0 ∗ dutyTok ER (xcell (ahead c j) 3 j) 0 0))) := by
  unfold send2A
  rw [bigSep_sep', bigSep_sep', bigSep_sep']

theorem take_wait (c : Dev nD) (k : Fin 4) : (bigSep Finset.univ fun j => waitA c k j : sProp 𝕄)
    = iprop((bigSep Finset.univ fun j => cred (tallyAt (xcell c k j) () N)) ∗ (bigSep Finset.univ fun j => atPos ER (xcell c k j) 0 ∅ 0)) := by
  unfold waitA
  rw [bigSep_sep']

/-- A program and what follows it. -/
theorem runs_then {c : Dev nD} {p : Prog (TpuEff nD τ sig (Elt F) Λ₀ .tc) PUnit} {k : PUnit → Prog (TpuEff nD τ sig (Elt F) Λ₀ .tc) PUnit} {R Q : sProp 𝕄} :
    iprop(runs c p R ∗ (R -∗ runs c (k ⟨⟩) Q)) ⊢ runs c (p >>= k) Q := by
  show iprop(runs c p R ∗ (R -∗ runs c (k ⟨⟩) Q)) ⊢ runs c (p.bind k) Q
  unfold runs
  have h : iprop(runs c p R ∗ (R -∗ runs c (k ⟨⟩) Q)) ⊢ iprop(wp frame (wpE (defs₀ (F := F)) 𝒱₀ (c : Thread nD τ) none) Set.univ p (fun a => wp frame (wpE (defs₀ (F := F)) 𝒱₀ (c : Thread nD τ) none) Set.univ (k a) fun _ => Q)) := by
    iintro ⟨Hp, Hk⟩
    iapply (wp_wand frame _ Set.univ) $$ Hp
    iintro %a HR
    iapply Hk; iexact HR
  exact h.trans (Entails.of_eq (wp_bind frame _ Set.univ p k fun _ => Q).symm)

/-! ## The loops -/

/-- A loop, with what it takes and leaves put in the caller's form. -/
theorem each_as {c : Dev nD} (f : Fin 31 → Prog (TpuEff nD τ sig (Elt F) Λ₀ .tc) PUnit) (P : sProp 𝕄) [BI.Persistent P]
    (A B : Fin 31 → sProp 𝕄) (C : ℕ → sProp 𝕄) {A' B' C₀ C₁ : sProp 𝕄} (h : ∀ j : Fin 31, iprop(P ∗ A j ∗ C j.val) ⊢ runs c (f j) iprop(B j ∗ C (j.val + 1)))
    (hA : A' ⊢ bigSep Finset.univ A) (hB : bigSep Finset.univ B ⊢ B') (h₀ : C₀ = C 0) (h₁ : C 31 = C₁) :
    iprop(P ∗ A' ∗ C₀) ⊢ runs c (each f all31) iprop(B' ∗ C₁) := by
  subst h₀ h₁
  exact (sep_mono_right (sep_mono_left hA)).trans ((runs_each f P A B C h).trans (wp_mono frame _ Set.univ fun _ => sep_mono_left hB))

variable (h5 : (Memref.whole cc0_stg5_0).IsWhole) (h6 : (Memref.whole cc0_scratch0).IsWhole) (h7 : (Memref.whole cc0_scratch1).IsWhole)
    (h8 : (Memref.whole cc0_scratch2).IsWhole) (h9 : (Memref.whole cc0_scratch3).IsWhole) (h10 : (Memref.whole cc0_scratch4).IsWhole) (h11 : (Memref.whole cc0_scratch5).IsWhole)

theorem loop_signal (c : Dev nD) :
    iprop((records part K ∗ opened c 1 ∗ opened c 3) ∗ ((bigSep Finset.univ fun j => dutyTok ER (barCell (ahead c j)) 0 j) ∗ (∃ f, pt c cc0_scratch3 f) ∗ ∃ f, pt c cc0_scratch5 f) ∗ owing c (O₀ c))
      ⊢ runs c (each (stSignal c) all31) iprop((bigSep Finset.univ fun _ : Fin 31 => iprop(emp)) ∗ owing c (ow2 c 0 + ow1 c 0)) :=
  each_as (stSignal c) iprop(records part K ∗ opened c 1 ∗ opened c 3) (fun j => sigA c j) (fun _ => iprop(emp)) (fun k => owing c (ow2 c 0 + ow1 c 0 + owB c k))
    (step_signal part K c) (take_signal c) (BI.Entails.refl _) rfl (by rw [owB_last, add_zero])

theorem loop_pack (c : Dev nD) :
    iprop(emp ∗ (∃ f, pt c cc0_scratch2 f) ∗ pt c cc0_scratch0 (part c))
      ⊢ runs c (each (stPack (Memref.whole cc0_scratch0) (Memref.whole cc0_scratch2) h8 c) all31) iprop((bigSep Finset.univ fun j => sSlot c j (sendV part c)) ∗ pt c cc0_scratch0 (part c)) :=
  each_as (stPack (Memref.whole cc0_scratch0) (Memref.whole cc0_scratch2) h8 c) iprop(emp) (fun j => iprop(∃ f, sSlot c j f)) (fun j => sSlot c j (sendV part c)) (fun _ => pt c cc0_scratch0 (part c))
    (step_pack part h8 c) (slots2 c) (BI.Entails.refl _) rfl rfl

theorem loop_send1 (c : Dev nD) :
    iprop((records part K ∗ opened c 0) ∗ ((bigSep Finset.univ fun j => sSlot c j (sendV part c)) ∗ (bigSep Finset.univ fun j => iprop(∃ f, gSlot (ahead c j) j f))
        ∗ (bigSep Finset.univ fun j => reached ER (xcell (ahead c j) 1 j) 0)
        ∗ (bigSep Finset.univ fun j => iprop(dutyTok ER (xcell c 0 j) 0 0 ∗ dutyTok ER (xcell (ahead c j) 1 j) 0 0))) ∗ owing c (ow2 c 0 + ow1 c 0))
      ⊢ runs c (each (stSend1 (Memref.whole cc0_scratch2) h8 (Memref.whole cc0_scratch3) h9 cc0_scratch6 cc0_scratch7 c) all31)
        iprop((bigSep Finset.univ fun j => cred (tallyAt (xcell c 0 j) () N)) ∗ owing c (ow2 c 0)) :=
  each_as (stSend1 (Memref.whole cc0_scratch2) h8 (Memref.whole cc0_scratch3) h9 cc0_scratch6 cc0_scratch7 c) iprop(records part K ∗ opened c 0) (fun j => send1A part c j)
    (fun j => cred (tallyAt (xcell c 0 j) () N)) (fun k => owing c (ow2 c 0 + ow1 c k))
    (step_send1 part K h8 h9 c) (Entails.of_eq (take_send1 part c).symm) (BI.Entails.refl _) rfl (by rw [ow1_last, add_zero])

theorem loop_recv1 (c : Dev nD) :
    iprop((records part K ∗ levAts L lv) ∗ ((bigSep Finset.univ fun j => cred (tallyAt (xcell c 1 j) () N)) ∗ (bigSep Finset.univ fun j => atPos ER (xcell c 1 j) 0 ∅ 0)) ∗ owing c (ow2 c 0))
      ⊢ runs c (each (stRecv1 (Memref.whole cc0_scratch2) h8 (Memref.whole cc0_scratch3) h9 cc0_scratch7) all31)
        iprop(((bigSep Finset.univ fun j => semVal (xcell c 1 j) 0) ∗ pt c cc0_scratch3 (gathV part c)) ∗ owing c (ow2 c 0)) :=
  each_as (stRecv1 (Memref.whole cc0_scratch2) h8 (Memref.whole cc0_scratch3) h9 cc0_scratch7) iprop(records part K ∗ levAts L lv) (fun j => waitA c 1 j)
    (fun j => iprop(semVal (xcell c 1 j) 0 ∗ gSlot c j (gathV part c))) (fun _ => owing c (ow2 c 0))
    (step_recv1 part K h8 h9 c) (Entails.of_eq (take_wait c 1).symm) (Entails.of_eq (by rw [bigSep_sep', split3])) rfl rfl

theorem loop_send2 (c : Dev nD) :
    iprop((records part K ∗ opened c 2) ∗ (pt c cc0_scratch4 (redV part c) ∗ (bigSep Finset.univ fun j => iprop(∃ f, rSlot (ahead c j) j f))
        ∗ (bigSep Finset.univ fun j => reached ER (xcell (ahead c j) 3 j) 0)
        ∗ (bigSep Finset.univ fun j => iprop(dutyTok ER (xcell c 2 j) 0 0 ∗ dutyTok ER (xcell (ahead c j) 3 j) 0 0))) ∗ owing c (ow2 c 0))
      ⊢ runs c (each (stSend2 (Memref.whole cc0_scratch4) h10 (Memref.whole cc0_scratch5) h11 cc0_scratch8 cc0_scratch9 c) all31)
        iprop((bigSep Finset.univ fun j => cred (tallyAt (xcell c 2 j) () N)) ∗ owing c 0) :=
  each_as (stSend2 (Memref.whole cc0_scratch4) h10 (Memref.whole cc0_scratch5) h11 cc0_scratch8 cc0_scratch9 c) iprop(records part K ∗ opened c 2) (fun j => send2A part c j)
    (fun j => cred (tallyAt (xcell c 2 j) () N)) (fun k => owing c (ow2 c k))
    (step_send2 part K h10 h11 c) (Entails.of_eq (by rw [shares, take_send2])) (BI.Entails.refl _) rfl (by rw [ow2_last])

theorem loop_recv2 (c : Dev nD) :
    iprop(records part K ∗ ((bigSep Finset.univ fun j => cred (tallyAt (xcell c 3 j) () N)) ∗ (bigSep Finset.univ fun j => atPos ER (xcell c 3 j) 0 ∅ 0)) ∗ (outPts part c 0 ∗ owing c 0))
      ⊢ runs c (each (stRecv2 (Memref.whole cc0_stg5_0) h5 (Memref.whole cc0_scratch4) h10 (Memref.whole cc0_scratch5) h11 cc0_scratch9 c) all31)
        iprop(((bigSep Finset.univ fun j => semVal (xcell c 3 j) 0) ∗ pt c cc0_scratch5 (rgathV part c)) ∗ (outPts part c 31 ∗ owing c 0)) :=
  each_as (stRecv2 (Memref.whole cc0_stg5_0) h5 (Memref.whole cc0_scratch4) h10 (Memref.whole cc0_scratch5) h11 cc0_scratch9 c) (records part K) (fun j => waitA c 3 j)
    (fun j => iprop(semVal (xcell c 3 j) 0 ∗ rSlot c j (rgathV part c))) (fun k => iprop(outPts part c k ∗ owing c 0))
    (step_recv2 part K h5 h10 h11 c) (Entails.of_eq (take_wait c 3).symm) (Entails.of_eq (by rw [bigSep_sep', split5])) rfl rfl

theorem loop_done1 (c : Dev nD) :
    iprop(records part K ∗ ((bigSep Finset.univ fun j => cred (tallyAt (xcell c 0 j) () N)) ∗ (bigSep Finset.univ fun j => atPos ER (xcell c 0 j) 0 ∅ 0)) ∗ owing c 0)
      ⊢ runs c (each (stDone1 (Memref.whole cc0_scratch2) h8 (Memref.whole cc0_scratch3) h9 cc0_scratch6) all31)
        iprop(((bigSep Finset.univ fun j => semVal (xcell c 0 j) 0) ∗ pt c cc0_scratch2 (sendV part c)) ∗ owing c 0) :=
  each_as (stDone1 (Memref.whole cc0_scratch2) h8 (Memref.whole cc0_scratch3) h9 cc0_scratch6) (records part K) (fun j => waitA c 0 j)
    (fun j => iprop(semVal (xcell c 0 j) 0 ∗ sSlot c j (sendV part c))) (fun _ => owing c 0)
    (step_done1 part K h8 h9 c) (Entails.of_eq (take_wait c 0).symm) (Entails.of_eq (by rw [bigSep_sep', split2])) rfl rfl

theorem loop_done2 (c : Dev nD) :
    iprop(records part K ∗ ((bigSep Finset.univ fun j => cred (tallyAt (xcell c 2 j) () N)) ∗ (bigSep Finset.univ fun j => atPos ER (xcell c 2 j) 0 ∅ 0)) ∗ owing c 0)
      ⊢ runs c (each (stDone2 (Memref.whole cc0_scratch4) h10 (Memref.whole cc0_scratch5) h11 cc0_scratch8) all31)
        iprop(((bigSep Finset.univ fun j => semVal (xcell c 2 j) 0) ∗ pt c cc0_scratch4 (redV part c)) ∗ owing c 0) :=
  each_as (stDone2 (Memref.whole cc0_scratch4) h10 (Memref.whole cc0_scratch5) h11 cc0_scratch8) (records part K) (fun j => waitA c 2 j)
    (fun j => iprop(semVal (xcell c 2 j) 0 ∗ redPts c (redShare j) (redV part c))) (fun _ => owing c 0)
    (step_done2 part K h10 h11 c) (Entails.of_eq (take_wait c 2).symm) (Entails.of_eq (by rw [bigSep_sep', shares])) rfl rfl

end Cert.KernelIdeal.Run

end
-- ==== Proof.Whole.lean ====
/-
  The whole body of one device: its pieces in order, from what it holds at the kernel's entry to what it holds at its exit.
-/
module

public import proofs.«01_k».proof.Proof.Body

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (part : Dev nD → FVec F S512x512 .bf16) (K : GSem nD τ sig → ℕ)

/-- What a device holds at the kernel's entry. -/
def bodyPre (c : Dev nD) (x : FVec F S512x512 .bf16) (wq : FVec F S512x256 .bf16) (k v : FVec F S512x4x64 .bf16) (wo : FVec F S256x512 .bf16) : sProp 𝕄 :=
  iprop(records part K ∗ levAts L lv ∗ openAll c ∗ toks c ∗ creds c ∗ places c ∗ owing c (O₀ c)
    ∗ inputs c x wq k v wo ∗ (∃ f, pt c cc0_stg5_0 f) ∗ scratch c)
/-- What it holds at its exit. -/
def bodyPost (c : Dev nD) (x : FVec F S512x512 .bf16) (wq : FVec F S512x256 .bf16) (k v : FVec F S512x4x64 .bf16) (wo : FVec F S256x512 .bf16) : sProp 𝕄 :=
  iprop(zeros c ∗ owing c 0 ∗ inputs c x wq k v wo ∗ pt c cc0_stg5_0 (outV part) ∗ scratch c)

/-- Every row is the device's own or that of a device behind it. -/
theorem out_done (c : Dev nD) : outPts part c 31 ⊢ pt c cc0_stg5_0 (outV part) := by
  unfold outPts
  iintro ⟨%f, Hf, %hf⟩
  have e : f = outV part := by
    funext i
    refine hf i ?_
    by_cases h : ownerOf (i 0) = c
    · exact Or.inl h
    · obtain ⟨j, hj⟩ := exists_behind c _ h
      exact Or.inr ⟨j, j.isLt, hj⟩
  subst e
  iexact Hf

variable (h5 : (Memref.whole cc0_stg5_0).IsWhole) (h6 : (Memref.whole cc0_scratch0).IsWhole) (h7 : (Memref.whole cc0_scratch1).IsWhole)
    (h8 : (Memref.whole cc0_scratch2).IsWhole) (h9 : (Memref.whole cc0_scratch3).IsWhole) (h10 : (Memref.whole cc0_scratch4).IsWhole) (h11 : (Memref.whole cc0_scratch5).IsWhole)

set_option maxHeartbeats 1000000 in
theorem body_run (c : Dev nD) (x : FVec F S512x512 .bf16) (wq : FVec F S512x256 .bf16) (k v : FVec F S512x4x64 .bf16) (wo : FVec F S256x512 .bf16) (hpart : part c = partV x wq k v wo) :
    bodyPre part K c x wq k v wo
      ⊢ runs c (loopBody (Memref.whole cc0_stg0_0) (Memref.whole cc0_stg1_0) (Memref.whole cc0_stg2_0) (Memref.whole cc0_stg3_0) (Memref.whole cc0_stg4_0)
          (Memref.whole cc0_stg5_0) h5 (Memref.whole cc0_scratch0) h6 (Memref.whole cc0_scratch1) h7 (Memref.whole cc0_scratch2) h8 (Memref.whole cc0_scratch3) h9
          (Memref.whole cc0_scratch4) h10 (Memref.whole cc0_scratch5) h11 cc0_scratch6 cc0_scratch7 cc0_scratch8 cc0_scratch9)
        (bodyPost part c x wq k v wo) := by
  unfold loopBody bodyPre bodyPost openAll toks creds places scratch
  rw [Prog.bind_lift]
  unfold runs
  rw [wp_deviceId]
  iintro ⟨#HR, #Hlev, ⟨#Ho0, #Ho1, #Ho2, #Ho3⟩, ⟨HtB, Ht1, Ht2⟩, ⟨HcB, Hc1, Hc3⟩, ⟨HaB, Ha0, Ha1, Ha2, Ha3⟩, HO, Hin, Hout, ⟨H0, H1, H2, H3, H4, H5⟩⟩
  -- the signals
  iapply (runs_then (c := c) (p := each (stSignal c) all31) (R := iprop((bigSep Finset.univ fun _ : Fin 31 => iprop(emp)) ∗ owing c (ow2 c 0 + ow1 c 0))))
  isplitl [HtB H3 H5 HO]
  · iapply (loop_signal part K c)
    isplitr
    · isplitr; · iexact HR
      isplitr; · iexact Ho1
      iexact Ho3
    isplitr [HO]
    · isplitl [HtB]; · iexact HtB
      isplitl [H3] <;> iassumption
    iexact HO
  iintro ⟨-, HO⟩
  -- the barrier
  iapply (runs_then (c := c) (p := semWaitWord bar 31#32) (R := iprop(semVal (barCell c) 0 ∗ (bigSep Finset.univ fun j => fromBar c j) ∗ owing c (ow2 c 0 + ow1 c 0))))
  isplitl [HcB HaB HO]
  · iapply (step_barrier part K c)
    isplitr; · iexact HR
    isplitr; · iexact Hlev
    isplitl [HcB]; · iexact HcB
    isplitl [HaB] <;> iassumption
  iintro ⟨HvB, Hbar, HO⟩
  ihave Hb := (Entails.of_eq (split_bar c)) $$ Hbar
  icases Hb with ⟨Hg, Hr, Hrg, Hrr⟩
  -- the attention block
  iapply (runs_then (c := c) (R := iprop(inputs c x wq k v wo ∗ pt c cc0_scratch0 (partV x wq k v wo) ∗ ∃ f, pt c cc0_scratch1 f)))
  isplitl [Hin H0 H1]
  · iapply (step_attend h6 h7 c x wq k v wo)
    isplitl [Hin]; · iexact Hin
    isplitl [H0] <;> iassumption
  rw [← hpart]
  iintro ⟨Hin, H0, H1⟩
  -- the packing
  iapply (runs_then (c := c) (R := iprop((bigSep Finset.univ fun j => sSlot c j (sendV part c)) ∗ pt c cc0_scratch0 (part c))))
  isplitl [H0 H2]
  · iapply (loop_pack part h8 c)
    isplitr; · iempintro
    isplitl [H2] <;> iassumption
  iintro ⟨Hs, H0⟩
  -- the first exchange
  iapply (runs_then (c := c) (R := iprop((bigSep Finset.univ fun j => cred (tallyAt (xcell c 0 j) () N)) ∗ owing c (ow2 c 0))))
  isplitl [Hs Hg Hrg Ht1 HO]
  · iapply (loop_send1 part K h8 h9 c)
    isplitr
    · isplitr; · iexact HR
      iexact Ho0
    isplitr [HO]
    · isplitl [Hs]; · iexact Hs
      isplitl [Hg]; · iexact Hg
      isplitl [Hrg] <;> iassumption
    iexact HO
  iintro ⟨Hc0, HO⟩
  iapply (runs_then (c := c) (R := iprop(((bigSep Finset.univ fun j => semVal (xcell c 1 j) 0) ∗ pt c cc0_scratch3 (gathV part c)) ∗ owing c (ow2 c 0))))
  isplitl [Hc1 Ha1 HO]
  · iapply (loop_recv1 part K h8 h9 c)
    isplitr
    · isplitr; · iexact HR
      iexact Hlev
    isplitr [HO]
    · isplitl [Hc1] <;> iassumption
    iexact HO
  iintro ⟨⟨Hv1, H3⟩, HO⟩
  -- the reduction
  iapply (runs_then (c := c) (R := iprop(pt c cc0_scratch0 (part c) ∗ pt c cc0_scratch3 (gathV part c) ∗ pt c cc0_scratch4 (redV part c) ∗ outPts part c 0)))
  isplitl [H0 H3 H4 Hout]
  · iapply (step_reduce part h5 h10 c)
    isplitl [H0]; · iexact H0
    isplitl [H3]; · iexact H3
    isplitl [H4] <;> iassumption
  iintro ⟨H0, H3, Hq, Hout⟩
  -- the second exchange
  iapply (runs_then (c := c) (R := iprop((bigSep Finset.univ fun j => cred (tallyAt (xcell c 2 j) () N)) ∗ owing c 0)))
  isplitl [Hq Hr Hrr Ht2 HO]
  · iapply (loop_send2 part K h10 h11 c)
    isplitr
    · isplitr; · iexact HR
      iexact Ho2
    isplitr [HO]
    · isplitl [Hq]; · iexact Hq
      isplitl [Hr]; · iexact Hr
      isplitl [Hrr] <;> iassumption
    iexact HO
  iintro ⟨Hc2, HO⟩
  iapply (runs_then (c := c) (R := iprop(((bigSep Finset.univ fun j => semVal (xcell c 3 j) 0) ∗ pt c cc0_scratch5 (rgathV part c)) ∗ (outPts part c 31 ∗ owing c 0))))
  isplitl [Hc3 Ha3 Hout HO]
  · iapply (loop_recv2 part K h5 h10 h11 c)
    isplitr; · iexact HR
    isplitl [Hc3 Ha3]
    · isplitl [Hc3] <;> iassumption
    isplitl [Hout] <;> iassumption
  iintro ⟨⟨Hv3, H5⟩, Hout, HO⟩
  -- the sends end
  iapply (runs_then (c := c) (R := iprop(((bigSep Finset.univ fun j => semVal (xcell c 0 j) 0) ∗ pt c cc0_scratch2 (sendV part c)) ∗ owing c 0)))
  isplitl [Hc0 Ha0 HO]
  · iapply (loop_done1 part K h8 h9 c)
    isplitr; · iexact HR
    isplitr [HO]
    · isplitl [Hc0] <;> iassumption
    iexact HO
  iintro ⟨⟨Hv0, H2⟩, HO⟩
  iapply (wp_wand (M := 𝕄) frame _ Set.univ (Q := fun _ => iprop(((bigSep Finset.univ fun j => semVal (xcell c 2 j) 0) ∗ pt c cc0_scratch4 (redV part c)) ∗ owing c 0))) $$ [Hc2 Ha2 HO]
  · iapply (loop_done2 part K h10 h11 c)
    isplitr; · iexact HR
    isplitr [HO]
    · isplitl [Hc2] <;> iassumption
    iexact HO
  iintro %_ ⟨⟨Hv2, H4⟩, HO⟩
  isplitl [HvB Hv0 Hv1 Hv2 Hv3]
  · unfold zeros
    isplitl [HvB]; · iexact HvB
    isplitl [Hv0]; · iexact Hv0
    isplitl [Hv1]; · iexact Hv1
    isplitl [Hv2] <;> iassumption
  isplitl [HO]; · iexact HO
  isplitl [Hin]; · iexact Hin
  isplitl [Hout]; · iapply (out_done part c); iexact Hout
  isplitl [H0]; · iexists _; iexact H0
  isplitl [H1]; · iexact H1
  isplitl [H2]; · iexists _; iexact H2
  isplitl [H3]; · iexists _; iexact H3
  isplitl [H4]; · iexists _; iexact H4
  iexists _; iexact H5

end Cert.KernelIdeal.Run

end
-- ==== Proof.Region.lean ====
/-
  The kernel call as a region of @main: what its windows stage in and out, the body's obligation, and the record that the launch runs.
-/
module

public import proofs.«01_k».proof.Proof.Whole
public import proofs.«01_k».proof.Proof.Gen.KernelIdeal.Launch
public import proofs.«01_k».proof.Proof.Gen.KernelIdeal.Regions
public import Idealize.ShloMosaic.Lib.Pipeline.Frame
public import Idealize.ShloMosaic.Lib.Pipeline.FrameBody
public import Idealize.ShloMosaic.Lib.Pipeline.RegionTalk
public import Idealize.ShloMosaic.Lib.Pipeline.Value

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig Unit (Elt F) ℕ UU ℕ

variable (m : (ℓ : Loc nD τ sig) → Buf (Elt F) ℓ)

/-! ## The contents -/

/-- The partial product of each device: the attention block on what the host operations leave in the five operands. -/
def partOf (c : Dev nD) : FVec F S512x512 .bf16 :=
  partV (V1 m c main_v15) (V1 m c main_v9) (V1 m c main_v16) (V1 m c main_v17) (V1 m c main_v14)
/-- What the region leaves in its result. -/
def outs : Outs (F := F) := fun _ r c => Function.update (fun r : Ref sig .tc => m ((c : Thread nD τ).loc r)) main_v18 (outV (partOf m)) r

theorem outs_v18 (n : ℕ) (c : Dev nD) : outs m n main_v18 c = outV (partOf m) := Function.update_self ..

/-- The device's launch state that its program keeps to itself. -/
def ghost (K : GSem nD τ sig → ℕ) (c : Dev nD) : sProp 𝕄 :=
  iprop(records (partOf m) K ∗ toks c ∗ atPos ER (barCell c) 0 ∅ 0 ∗ four (fun k j => openTok ER (xcell c k j)))
/-- The same once the cells of the copies are open. -/
def inside (K : GSem nD τ sig → ℕ) (c : Dev nD) : sProp 𝕄 :=
  iprop(records (partOf m) K ∗ openAll c ∗ toks c ∗ places c)

def Tk (c : Dev nD) : sProp 𝕄 := iprop((∃ K, ghost m K c) ∗ creds c)
def Xk (c : Dev nD) : sProp 𝕄 := iprop((∃ K, inside m K c) ∗ creds c ∗ levAts L lv)
def Yk (c : Dev nD) : sProp 𝕄 := semVal (barCell c) 0

/-- The invariant at the region's two ends. -/
def Φat (c : Dev nD) (n : ℕ) : sProp 𝕄 :=
  if n = 0 then iprop(Xk m c ∗ scratch c ∗ ∃ r, prngReg c r) else iprop(zeros c ∗ scratch c ∗ ∃ r, prngReg c r)
def owedAt (c : Dev nD) (n : ℕ) : CellTallies nD τ sig Unit := if n = 0 then O₀ c else 0

/-- What the body leaves in each window's buffer. -/
def leaves (c : Dev nD) : (w : Fin 6) → (win0 w).block.Idx → Elt F (win0 w).elt
  | 0 => V1 m c main_v15 | 1 => V1 m c main_v9 | 2 => V1 m c main_v16 | 3 => V1 m c main_v17 | 4 => V1 m c main_v14 | 5 => outV (partOf m)

def dat (c : Dev nD) : Dat τ (Elt F) Unit ℕ UU ℕ cfg0 c where
  A w := V1 m c (Pipeline.arrRef spec0 w)
  after w _ := leaves m c w
  Φ t := Φat m c t.val
  q _ := fullShare
  owed t := owedAt c t.val
def dats : (p : Fin 1) → (c : Dev nD) → Dat τ (Elt F) Unit ℕ UU ℕ (cfgs p) c := fun _ c => dat m c

/-! ## The windows are whole buffers -/

theorem blk0 (i : S512x512.Idx) : ((cfg0.win 0).blk t0_0).view.emb i = i := by
  funext a; apply Fin.ext; show 0 * _ + 1 * (i a).val = (i a).val; omega
theorem blk1 (i : S512x256.Idx) : ((cfg0.win 1).blk t0_0).view.emb i = i := by
  funext a; apply Fin.ext; show 0 * _ + 1 * (i a).val = (i a).val; omega
theorem blk2 (i : S512x4x64.Idx) : ((cfg0.win 2).blk t0_0).view.emb i = i := by
  funext a; apply Fin.ext; show 0 * _ + 1 * (i a).val = (i a).val; omega
theorem blk3 (i : S512x4x64.Idx) : ((cfg0.win 3).blk t0_0).view.emb i = i := by
  funext a; apply Fin.ext; show 0 * _ + 1 * (i a).val = (i a).val; omega
theorem blk4 (i : S256x512.Idx) : ((cfg0.win 4).blk t0_0).view.emb i = i := by
  funext a; apply Fin.ext; show 0 * _ + 1 * (i a).val = (i a).val; omega
theorem blk5 (i : S512x512.Idx) : ((cfg0.win 5).blk t0_0).view.emb i = i := by
  funext a; apply Fin.ext; show 0 * _ + 1 * (i a).val = (i a).val; omega

theorem before0 (c : Dev nD) (d) : (dat m c).before 0 t0_0 d = V1 m c main_v15 := by
  unfold Dat.before; rw [if_pos (fetch0_0 t0_0)]
  funext i; exact congrArg (V1 m c main_v15) (blk0 i)
theorem before1 (c : Dev nD) (d) : (dat m c).before 1 t0_0 d = V1 m c main_v9 := by
  unfold Dat.before; rw [if_pos (fetch0_1 t0_0)]
  funext i; exact congrArg (V1 m c main_v9) (blk1 i)
theorem before2 (c : Dev nD) (d) : (dat m c).before 2 t0_0 d = V1 m c main_v16 := by
  unfold Dat.before; rw [if_pos (fetch0_2 t0_0)]
  funext i; exact congrArg (V1 m c main_v16) (blk2 i)
theorem before3 (c : Dev nD) (d) : (dat m c).before 3 t0_0 d = V1 m c main_v17 := by
  unfold Dat.before; rw [if_pos (fetch0_3 t0_0)]
  funext i; exact congrArg (V1 m c main_v17) (blk3 i)
theorem before4 (c : Dev nD) (d) : (dat m c).before 4 t0_0 d = V1 m c main_v14 := by
  unfold Dat.before; rw [if_pos (fetch0_4 t0_0)]
  funext i; exact congrArg (V1 m c main_v14) (blk4 i)

theorem arrAt5 (c : Dev nD) : (dat m c).arrAt 5 cfg0.N = outV (partOf m) := by
  refine (dat m c).arrAt_eq_of_cover 5 (outV (partOf m)) (fun t _ => ?_) (fun i => ⟨t0_0, flush0_5 t0_0, ?_⟩)
  · obtain rfl := fin_N0 t
    funext i; exact (congrArg (outV (partOf m)) (blk5 i)).symm
  · have h := ((cfg0.win 5).blk t0_0).view.emb_mem_set i
    rw [blk5 i] at h
    exact h

/-! ## The body's obligation -/

theorem owes_in {c : Dev nD} (t : Fin (cfg0.N + 1)) (O : CellTallies nD τ sig Unit) (h : owedAt c t.val = O) :
    ((dat m c).owesAt () t : sProp 𝕄) ⊢ owing c O := by
  subst h
  unfold Dat.owesAt Pipeline.owesWithin
  iintro ⟨%W, -, HO⟩; iexists W; iexact HO
theorem owes_out {c : Dev nD} (t : Fin (cfg0.N + 1)) (O : CellTallies nD τ sig Unit) (h : owedAt c t.val = O) :
    (owing c O : sProp 𝕄) ⊢ (dat m c).owesAt () t := by
  subst h
  unfold Dat.owesAt Pipeline.owesWithin
  iintro ⟨%W, HO⟩; iexists W; isplitr; · ipureintro; exact fun _ _ => Or.inl trivial
  iexact HO

/-- The windows' buffers as the region hands them to the body, and as it takes them back. -/
def stagedIn (c : Dev nD) : sProp 𝕄 :=
  iprop((∃ d, owns (c : Thread nD τ) (Memref.whole cc0_stg0_0) fullShare ((dat m c).before 0 t0_0 d))
    ∗ (∃ d, owns (c : Thread nD τ) (Memref.whole cc0_stg1_0) fullShare ((dat m c).before 1 t0_0 d))
    ∗ (∃ d, owns (c : Thread nD τ) (Memref.whole cc0_stg2_0) fullShare ((dat m c).before 2 t0_0 d))
    ∗ (∃ d, owns (c : Thread nD τ) (Memref.whole cc0_stg3_0) fullShare ((dat m c).before 3 t0_0 d))
    ∗ (∃ d, owns (c : Thread nD τ) (Memref.whole cc0_stg4_0) fullShare ((dat m c).before 4 t0_0 d))
    ∗ ∃ d, owns (c : Thread nD τ) (Memref.whole cc0_stg5_0) fullShare ((dat m c).before 5 t0_0 d))
def stagedOut (c : Dev nD) : sProp 𝕄 :=
  iprop(owns (c : Thread nD τ) (Memref.whole cc0_stg0_0) fullShare (leaves m c 0)
    ∗ owns (c : Thread nD τ) (Memref.whole cc0_stg1_0) fullShare (leaves m c 1)
    ∗ owns (c : Thread nD τ) (Memref.whole cc0_stg2_0) fullShare (leaves m c 2)
    ∗ owns (c : Thread nD τ) (Memref.whole cc0_stg3_0) fullShare (leaves m c 3)
    ∗ owns (c : Thread nD τ) (Memref.whole cc0_stg4_0) fullShare (leaves m c 4)
    ∗ owns (c : Thread nD τ) (Memref.whole cc0_stg5_0) fullShare (leaves m c 5))

theorem staged_in (c : Dev nD) :
    stagedIn m c ⊢ iprop(inputs c (V1 m c main_v15) (V1 m c main_v9) (V1 m c main_v16) (V1 m c main_v17) (V1 m c main_v14) ∗ ∃ f, pt c cc0_stg5_0 f) := by
  unfold stagedIn
  simp only [before0, before1, before2, before3, before4, owns_whole]
  iintro ⟨⟨%d0, H0⟩, ⟨%d1, H1⟩, ⟨%d2, H2⟩, ⟨%d3, H3⟩, ⟨%d4, H4⟩, ⟨%d5, H5⟩⟩
  isplitr [H5]
  · isplitl [H0]; · iexact H0
    isplitl [H1]; · iexact H1
    isplitl [H2]; · iexact H2
    isplitl [H3] <;> iassumption
  iexists _; iexact H5

theorem staged_out (c : Dev nD) :
    iprop(inputs c (V1 m c main_v15) (V1 m c main_v9) (V1 m c main_v16) (V1 m c main_v17) (V1 m c main_v14) ∗ pt c cc0_stg5_0 (outV (partOf m))) ⊢ stagedOut m c := by
  unfold stagedOut
  simp only [owns_whole]
  iintro ⟨⟨H0, H1, H2, H3, H4⟩, H5⟩
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rw [Defs.onTc_tc]

theorem bodyAt0_eq : bodyAt0 (F := F) t0_0
    = loopBody (Memref.whole cc0_stg0_0) (Memref.whole cc0_stg1_0) (Memref.whole cc0_stg2_0) (Memref.whole cc0_stg3_0) (Memref.whole cc0_stg4_0)
          (Memref.whole cc0_stg5_0) (Memref.isWhole_whole _) (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _) cc0_scratch6 cc0_scratch7 cc0_scratch8 cc0_scratch9 :=
  cc0_body_eq ..

theorem body_at (c : Dev nD) :
    iprop((dat m c).Φ t0_0.castSucc ∗ (dat m c).owesAt () t0_0.castSucc ∗ stagedIn m c)
      ⊢ wp frame (wpE (defs₀ (F := F)) 𝒱₀ (c : Thread nD τ) none) Set.univ (bodyAt0 t0_0)
          (fun _ => iprop((dat m c).Φ t0_0.succ ∗ (dat m c).owesAt () t0_0.succ ∗ stagedOut m c)) := by
  rw [bodyAt0_eq, show (dat m c).Φ t0_0.castSucc = iprop(Xk m c ∗ scratch c ∗ ∃ r, prngReg c r) from rfl,
    show (dat m c).Φ t0_0.succ = iprop(zeros c ∗ scratch c ∗ ∃ r, prngReg c r) from rfl]
  unfold Xk inside
  iintro ⟨⟨⟨⟨%K, #HR, Ho, Ht, Hpl⟩, Hcr, #Hlev⟩, Hsc, Hp⟩, HO, Hst⟩
  ihave HO' := (owes_in m t0_0.castSucc (O₀ c) rfl) $$ HO
  ihave Hi := (staged_in m c) $$ Hst
  icases Hi with ⟨Hin, Hout⟩
  iapply (wp_wand (M := 𝕄) frame _ Set.univ (Q := fun _ => bodyPost (partOf m) c (V1 m c main_v15) (V1 m c main_v9) (V1 m c main_v16) (V1 m c main_v17) (V1 m c main_v14))) $$ [Ho Ht Hpl Hcr Hsc HO' Hin Hout]
  · iapply (body_run (partOf m) K (Memref.isWhole_whole _) (Memref.isWhole_whole _) (Memref.isWhole_whole _) (Memref.isWhole_whole _) (Memref.isWhole_whole _)
      (Memref.isWhole_whole _) (Memref.isWhole_whole _) c (V1 m c main_v15) (V1 m c main_v9) (V1 m c main_v16) (V1 m c main_v17) (V1 m c main_v14) rfl)
    unfold bodyPre
    isplitr; · iexact HR
    isplitr; · iexact Hlev
    isplitl [Ho]; · iexact Ho
    isplitl [Ht]; · iexact Ht
    isplitl [Hcr]; · iexact Hcr
    isplitl [Hpl]; · iexact Hpl
    isplitl [HO']; · iexact HO'
    isplitl [Hin]; · iexact Hin
    isplitl [Hout] <;> iassumption
  iintro %a Hb
  unfold bodyPost
  icases Hb with ⟨Hz, HO, Hin, Hout, Hsc⟩
  isplitl [Hz Hsc Hp]
  · isplitl [Hz]; · iexact Hz
    isplitl [Hsc] <;> iassumption
  isplitl [HO]
  · iapply (owes_out m t0_0.succ 0 rfl); iexact HO
  iapply (staged_out m c)
  isplitl [Hin] <;> iassumption

theorem body0 (c : Dev nD) : BodyObligation (dat (F := F) m c) defs₀ 𝒱₀ () Set.univ := fun t => by
  obtain rfl := fin_N0 t
  rw [bigSep_W0, bigSep_W0, row0]
  exact triple_restated (body_at m c) rfl .rfl fun _ => .rfl

/-! ## The region's record -/

/-- The kernel's own semaphores. -/
abbrev osem (kj : Fin 4 × Fin 31) : SemLoc sig := xsem kj.1 kj.2
theorem osem_facts : Pipeline.OwnSemFacts spec0 osem where
  isScoped := by decide +kernel
  inj := fun a b h => Prod.ext (xsem_inj h).1 (xsem_inj h).2
  disj := by decide +kernel

theorem ownSems_eq (c : Dev nD) : (Pipeline.ownSems0 (Ix := Unit) (Name := ℕ) (U := UU) (Lvl := ℕ) (Val := Elt F) osem c : sProp 𝕄) = four (fun k j => semVal (xcell c k j) 0) :=
  four_eq fun k j => semVal (xcell c k j) 0

theorem open_all (K : GSem nD τ sig → ℕ) (c : Dev nD) (k : Fin 4) :
    iprop(records (partOf m) K ∗ (bigSep Finset.univ fun j : Fin 31 => openTok ER (xcell c k j)) ∗ bigSep Finset.univ fun j : Fin 31 => semVal (xcell c k j) 0)
      ⊢ (|={Set.univ}=> iprop((bigSep Finset.univ fun j : Fin 31 => atPos ER (xcell c k j) 0 ∅ 0) ∗ bigSep Finset.univ fun j : Fin 31 => reached ER (xcell c k j) 0) : sProp 𝕄) := by
  have h (j : Fin 31) : iprop(records (partOf m) K ∗ (openTok ER (xcell c k j) ∗ semVal (xcell c k j) 0))
      ⊢ (|={Set.univ}=> iprop(atPos ER (xcell c k j) 0 ∅ 0 ∗ reached ER (xcell c k j) 0) : sProp 𝕄) := by
    iintro ⟨#HR, Ho, Hs⟩
    iapply (Rounds.cell_open ER (sched (partOf m)) (κ := K (xcell c k j)) (g := xcell c k j) (Set.mem_univ _))
    isplitr; · iapply (inv_x (partOf m) K c k j); iexact HR
    isplitl [Ho] <;> iassumption
  rw [← bigSep_sep', ← bigSep_sep']
  exact (bigSep_with_persistent (R := records (partOf m) K) fun j _ => h j).trans (BI.bigSep_fupd _ _)

theorem hopen (c : Dev nD) : iprop(Tk m c ∗ Pipeline.ownSems0 osem c ∗ levAts L lv) ⊢ (|={Set.univ}=> Xk m c : sProp 𝕄) := by
  rw [ownSems_eq]
  unfold Tk Xk ghost inside places openAll
  iintro ⟨⟨⟨%K, #HR, Ht, HaB, Ho0, Ho1, Ho2, Ho3⟩, Hcr⟩, ⟨Hs0, Hs1, Hs2, Hs3⟩, #Hlev⟩
  imod (open_all m K c 0) $$ [Ho0 Hs0] with ⟨Ha0, #Hr0⟩
  · isplitr; · iexact HR
    isplitl [Ho0] <;> iassumption
  imod (open_all m K c 1) $$ [Ho1 Hs1] with ⟨Ha1, #Hr1⟩
  · isplitr; · iexact HR
    isplitl [Ho1] <;> iassumption
  imod (open_all m K c 2) $$ [Ho2 Hs2] with ⟨Ha2, #Hr2⟩
  · isplitr; · iexact HR
    isplitl [Ho2] <;> iassumption
  imod (open_all m K c 3) $$ [Ho3 Hs3] with ⟨Ha3, #Hr3⟩
  · isplitr; · iexact HR
    isplitl [Ho3] <;> iassumption
  imodintro
  isplitr [Hcr]
  · iexists K
    isplitr; · iexact HR
    isplitr
    · isplitr; · iexact Hr0
      isplitr; · iexact Hr1
      isplitr; · iexact Hr2
      iexact Hr3
    isplitl [Ht]; · iexact Ht
    isplitl [HaB]; · iexact HaB
    isplitl [Ha0]; · iexact Ha0
    isplitl [Ha1]; · iexact Ha1
    isplitl [Ha2] <;> iassumption
  isplitl [Hcr]; · iexact Hcr
  iexact Hlev

theorem hin (c : Dev nD) : iprop(Pipeline.scopedRest (Pipeline.pin (pcfgs (F := F)) adm 0).spec c ∗ (∃ r, prngReg c r) ∗ StableHlo.held (c.tc : Thread nD τ) ∅ (V1 m c) ∗ Xk m c)
    ⊢ (dats m 0 c).Φ 0 := by
  rw [show (dats m 0 c).Φ 0 = iprop(Xk m c ∗ scratch c ∗ ∃ r, prngReg c r) from rfl,
    show (Pipeline.scopedRest (Pipeline.pin (pcfgs (F := F)) adm 0).spec c : sProp 𝕄) = scratch c from scopedRest0_eq c]
  iintro ⟨Hs, Hp, -, HX⟩
  isplitl [HX]; · iexact HX
  isplitl [Hs] <;> iassumption

theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
        ∗ Pipeline.ownSems0 osem c ∗ Yk c) := by
  rw [show (dats m 0 c).Φ (Fin.last _) = iprop(zeros c ∗ scratch c ∗ ∃ r, prngReg c r) from rfl, ownSems_eq,
    show (Pipeline.scopedRest (Pipeline.pin (pcfgs (F := F)) adm 0).spec c : sProp 𝕄) = scratch c from scopedRest0_eq c]
  unfold zeros Yk
  iintro ⟨⟨HvB, Hv⟩, Hs, Hp⟩
  isplitl [Hs]; · iexact Hs
  isplitl [Hp]; · iexact Hp
  isplitr
  · unfold StableHlo.held; rw [BI.bigSep_empty]; iempintro
  isplitl [Hv] <;> iassumption

/-- The buffers that neither window stages. -/
abbrev others : Finset (DevRef τ sig) := Pipeline.ucRefs τ sig \ Pipeline.arrRefs (τ := τ) spec0

theorem V2_keeps (c : Dev nD) : ∀ b ∈ others \ ∅, V2 m (outs m) c b = V1 m c b := fun b hb => by
  refine Function.update_of_ne (fun h => ?_) _ _
  subst h
  have hb' := (Finset.mem_sdiff.mp (Finset.mem_sdiff.mp hb).1).2
  exact hb' (by decide)

theorem cut (c : Dev nD) (t : Fin (cfg0.N + 1)) (g : GSem nD τ sig) (i : Unit) (h : 0 < (dat m c).owed t g i) : i ∈ L g ∧ (0 : ℕ) < lv g i := by
  have e : (dat m c).owed t = if t.val = 0 then O₀ c else 0 := rfl
  rw [e] at h
  split at h
  · rcases O₀_pos h with ⟨d, j, rfl⟩ | ⟨d, j, rfl⟩ | ⟨d, rfl⟩
    · exact ⟨by rw [L_tc]; exact Finset.mem_singleton_self _, by rw [lv_3]; decide⟩
    · exact ⟨by rw [L_tc]; exact Finset.mem_singleton_self _, by rw [lv_1]; decide⟩
    · exact ⟨by rw [L_tc]; exact Finset.mem_singleton_self _, by rw [lv_bar]; decide⟩
  · exact absurd h (Nat.lt_irrefl 0)

theorem staging_kind : ∀ (w : Fin 6) (s : Fin (cfg0.win w).nbuf), kindOf (.dma ((cfg0.win w).sem s)) = 5 := by decide +kernel

theorem arr_in (c : Dev nD) (w : Fin 6) : (dat m c).arrAt w 0 = V1 m c (Proc.devRef .tc (Pipeline.arrRef spec0 w)) := rfl
theorem arr_out (c : Dev nD) : ∀ w : Fin 6, (dat m c).arrAt w cfg0.N = V2 m (outs m) c (Proc.devRef .tc (Pipeline.arrRef spec0 w))
  | 0 => ((dat m c).arrAt_in 0 rfl _).trans (V2_of m (outs m) c main_v15 (by decide)).symm
  | 1 => ((dat m c).arrAt_in 1 rfl _).trans (V2_of m (outs m) c main_v9 (by decide)).symm
  | 2 => ((dat m c).arrAt_in 2 rfl _).trans (V2_of m (outs m) c main_v16 (by decide)).symm
  | 3 => ((dat m c).arrAt_in 3 rfl _).trans (V2_of m (outs m) c main_v17 (by decide)).symm
  | 4 => ((dat m c).arrAt_in 4 rfl _).trans (V2_of m (outs m) c main_v14 (by decide)).symm
  | 5 => (arrAt5 m c).trans ((outs_v18 m 2 c).symm.trans (Function.update_self (main_v18 : DevRef τ sig) (outs m 2 main_v18 c) (V1 m c)).symm)

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ others (Finset.empty_subset _) launch0.toP rfl (fun c => (body0 m c).loose)
    (fun _ => 0) O₀ (fun c => (zero_add _).symm) (fun _ => rfl) (fun _ => rfl) (fun c w => (dat m c).share_full (fun _ => rfl) w)
    (V1 m) (V2 m (outs m)) (V2_keeps m)
    (Tk m) Yk (Xk m) Yk (hopen m) (hin m) (hout m)
    (fun c => by iintro H; imodintro; iexact H)
    (fun _ => 0)
    ⟨fun c w s => by rw [L_tc]; exact Finset.mem_singleton_self _, fun c w s => by show lv _ _ ≤ 0; unfold lv; rw [staging_kind w s]; decide, fun c t g i h => cut m c t g i h⟩
    (fun _ => iprop(emp))
    (arr_in m) (arr_out m)

theorem arr_sub : Pipeline.arrRefs (τ := τ) spec0 ⊆ Pipeline.ucRefs τ sig := by decide +kernel

/-- What rides beside the buffers up to the region, and after it. -/
def beside : Fin 2 → Dev nD → sProp 𝕄
  | 0 => fun c => iprop(Tk m c ∗ (∃ r, prngReg c r) ∗ owing c (O₀ c))
  | 1 => fun c => iprop(semVal (barCell c) 0 ∗ owing c 0)

theorem reg_pre (c : Dev nD) : iprop(StableHlo.held (c : Thread nD τ) (Pipeline.ucRefs τ sig) (V1 m c) ∗ beside m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  dsimp only [beside]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V2 m (outs m) c) ∗ beside m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c.tc : Thread nD τ) arr_sub (V2 m (outs m) c)]
  dsimp only [beside]
  unfold Yk
  iintro ⟨Ha, -, ⟨Hr, -⟩, Hb, HO⟩
  isplitl [Ha Hr]; · isplitl [Ha] <;> iassumption
  isplitl [Hb] <;> iassumption

end Cert.KernelIdeal.Run

end
-- ==== Proof.Launch.lean ====
/-
  The launch: the ghost state of the two exchanges is made for the whole mesh at once and dealt to the devices, each taking the duties that it pays and the
  credit for what the others send it; then the run of @main on all devices.
-/
module

public import proofs.«01_k».proof.Proof.Region

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The duties of all cells, dealt to those who pay them -/

def barTok : Dev nD × Fin 31 ↪ GSem nD τ sig × ℕ × Fin 31 :=
  ⟨fun cj => (barCell cj.1, 0, cj.2), fun _ _ h =>
    Prod.ext (congrArg (fun t : GSem nD τ sig × ℕ × Fin 31 => t.1.1.1) h) (congrArg (fun t : GSem nD τ sig × ℕ × Fin 31 => t.2.2) h)⟩
def xTok : Dev nD × (Fin 4 × Fin 31) ↪ GSem nD τ sig × ℕ × Fin 31 :=
  ⟨fun ck => (xEmb ck, 0, 0), fun _ _ h => xEmb.injective (congrArg Prod.fst h)⟩
/-- A duty of every barrier cell for each place, one of every other cell. -/
def allToks : Finset (GSem nD τ sig × ℕ × Fin 31) := Finset.univ.map barTok ∪ Finset.univ.map xTok

theorem disjoint_toks : Disjoint (Finset.univ.map barTok) (Finset.univ.map xTok) := by
  rw [Finset.disjoint_left]
  rintro g h₁ h₂
  obtain ⟨c, -, rfl⟩ := Finset.mem_map.mp h₁
  obtain ⟨ck, -, h⟩ := Finset.mem_map.mp h₂
  exact xsem_ne_bar _ _ (congrArg (fun t : GSem nD τ sig × ℕ × Fin 31 => t.1.2) h)

/-- One step of the ring, place by place. -/
def step : Dev nD × Fin 31 ≃ Dev nD × Fin 31 where
  toFun cj := (ahead cj.1 cj.2, cj.2)
  invFun cj := (behind cj.1 cj.2, cj.2)
  left_inv cj := Prod.ext (behind_ahead cj.1 cj.2) rfl
  right_inv cj := Prod.ext (ahead_behind cj.1 cj.2) rfl

theorem around (X : Dev nD → Fin 31 → sProp 𝕄) :
    (bigSep Finset.univ fun c => bigSep Finset.univ fun j => X c j) = bigSep Finset.univ fun c => bigSep Finset.univ fun j => X (ahead c j) j := by
  rw [← bigSep_univ_prod (fun cj : Dev nD × Fin 31 => X cj.1 cj.2), bigSep_univ_equiv step, bigSep_univ_prod]; rfl

theorem toks_dealt : bigSep allToks (fun x => (dutyTok ER x.1 x.2.1 x.2.2 : sProp 𝕄)) ⊢ bigSep Finset.univ fun c : Dev nD => toks c := by
  have hB : bigSep (Finset.univ.map barTok) (fun x => (dutyTok ER x.1 x.2.1 x.2.2 : sProp 𝕄))
      = bigSep Finset.univ fun c : Dev nD => bigSep Finset.univ fun j => dutyTok ER (barCell (ahead c j)) 0 j := by
    rw [bigSep_map, bigSep_univ_prod]; exact around fun c j => dutyTok ER (barCell c) 0 j
  have hX : bigSep (Finset.univ.map xTok) (fun x => (dutyTok ER x.1 x.2.1 x.2.2 : sProp 𝕄))
      = bigSep Finset.univ fun c : Dev nD => four (fun k j => dutyTok ER (xcell c k j) 0 0) := by
    rw [bigSep_map, bigSep_univ_prod]; exact bigSep_congr fun c _ => four_eq fun k j => dutyTok ER (xcell c k j) 0 0
  unfold allToks
  rw [bigSep_union disjoint_toks, hB, hX]
  unfold toks four
  simp only [bigSep_sep']
  rw [around fun c j => dutyTok ER (xcell c 1 j) 0 0, around fun c j => dutyTok ER (xcell c 3 j) 0 0]
  refine sep_mono .rfl ?_
  show iprop(_ ∗ _ ∗ _ ∗ _) ⊢ iprop((_ ∗ _) ∗ _ ∗ _)
  iintro ⟨H0, H1, H2, H3⟩
  isplitl [H0 H1]; · isplitl [H0] <;> iassumption
  isplitl [H2] <;> iassumption

/-! ## The launch credit -/

theorem cred_ge (sm : Fin 31 → SemLoc sig) (n : ℕ) (c : Dev nD) :
    (Pipeline.launchCred (fun d => ∑ j ∈ ge 0, tallyAt ((ahead d j : Thread nD τ), sm j) () n) c : sProp 𝕄)
      ⊢ bigSep Finset.univ fun j => cred (tallyAt ((c : Thread nD τ), sm j) () n) := by
  rw [ge_zero, Pipeline.launchCred_sum Finset.univ fun j d => tallyAt ((ahead d j : Thread nD τ), sm j) () n]
  exact bigSep_mono fun j _ => Pipeline.launchCred_tallyAt (sm j) (fun d => ahead d j) (fun d => behind d j) (fun d => ahead_behind d j) (fun d => behind_ahead d j) () n c

theorem sum_units (g : GSem nD τ sig) : (∑ _j : Fin 31, (tallyAt g () 1 : CellTallies nD τ sig Unit)) = tallyAt g () 31 := by
  funext g'; refine Finsupp.ext fun u => ?_
  rw [Finset.sum_apply, Finsupp.finset_sum_apply, Finset.sum_congr rfl fun j _ => tallyAt_apply .., tallyAt_apply]
  split <;> simp

theorem creds_intro (c : Dev nD) : (Pipeline.launchCred O₀ c : sProp 𝕄) ⊢ creds c := by
  rw [show (Pipeline.launchCred O₀ c : sProp 𝕄) = iprop((Pipeline.launchCred (fun d => ow2 d 0) c ∗ Pipeline.launchCred (fun d => ow1 d 0) c) ∗ Pipeline.launchCred (fun d => owB d 0) c)
    from (Pipeline.launchCred_add (fun d => ow2 d 0 + ow1 d 0) (fun d => owB d 0) c).trans (by rw [Pipeline.launchCred_add])]
  unfold creds
  iintro ⟨⟨H2, H1⟩, HB⟩
  isplitl [HB]
  · rw [← sum_units, Pipeline.cred_finsetSum]
    iapply (cred_ge (F := F) (fun _ => .reg bar) 1 c); iexact HB
  isplitl [H1]
  · iapply (cred_ge (F := F) (fun j => xsem 1 j) N c); iexact H1
  · iapply (cred_ge (F := F) (fun j => xsem 3 j) N c); iexact H2

/-! ## The launch -/

/-- The launch element: the staging cells', and the exchanges'. -/
def u₀ : UU :=
  (initOf (Pipeline.cells (Pipeline.pin (pcfgs (F := F)) adm) cellOf_inj) (Pipeline.launchToks (Pipeline.pin (pcfgs (F := F)) adm) cellOf_inj),
    launchOf barCells xCells allToks)

/-- One resource of the mesh, kept by device 0. -/
def onZero (X : sProp 𝕄) (c : Dev nD) : sProp 𝕄 := if c = 0 then X else iprop(emp)
theorem bigSep_onZero (X : sProp 𝕄) : bigSep Finset.univ (onZero X) = X := by
  rw [bigSep_univ_at _ 0, bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells xCells allToks)))

/-- A device's part of the ghost state, the records aside. -/
def mine (c : Dev nD) : sProp 𝕄 := iprop(toks c ∗ atPos ER (barCell c) 0 ∅ 0 ∗ four (fun k j => openTok ER (xcell c k j)))
/-- What else a device has at launch. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ beside m 0 c)
abbrev Tₙ (c : Dev nD) : sProp 𝕄 := iprop(StableHlo.held (c : Thread nD τ) (Pipeline.ucRefs τ sig) (V3 m (outs m) c) ∗ semVal (barCell c) 0)

theorem T₀_intro (K : GSem nD τ sig → ℕ) (c : Dev nD) : iprop(records (partOf m) K ∗ (mine c ∗ bundle m c)) ⊢ T₀ m c := by
  unfold bundle mine T₀ beside Tk ghost
  iintro ⟨#HR, ⟨Ht, Ha, Ho⟩, Hh, Hc, HO, Hp⟩
  isplitl [Hh]; · iexact Hh
  isplitl [Ht Ha Ho Hc]
  · isplitl [Ht Ha Ho]
    · iexists K
      isplitr; · iexact HR
      isplitl [Ht]; · iexact Ht
      isplitl [Ha] <;> iassumption
    · iexact Hc
  isplitl [Hp]; · iexact Hp
  iexists ∅; iexact HO

theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
theorem beside_each {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

theorem unscoped_eq : ∀ sm : SemLoc sig, sm.isScoped .tc = false → sm = .reg bar := by decide +kernel

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg bar} from by decide +kernel, BI.bigSep_singleton]

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = (StableHlo.held (c : Thread nD τ) (Pipeline.ucRefs τ sig) (V0 m c) : sProp 𝕄)
      from Pipeline.unscopedBufs_held (Ix := Unit) (Name := ℕ) (U := UU) (Lvl := ℕ) c (V0 m c),
    unscopedSems0_eq]
  unfold bundle
  iintro ⟨Hh, Hus, HO, Hcr, Hp, HG⟩
  isplitl [Hh Hcr HO Hp]
  · isplitl [Hh]; · iexact Hh
    isplitl [Hcr]; · iapply (creds_intro (F := F) c); iexact Hcr
    isplitl [HO]; · iexact HO
    iexists (ρ c); iexact Hp
  isplitl [Hus] <;> iassumption

theorem dealt_vals : bigSep Finset.univ (fun c : Dev nD => (semVal (barCell c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem dealt_pos : bigSep barCells (fun g => (atPos ER g 0 ∅ 0 : sProp 𝕄)) ⊢ bigSep Finset.univ (fun c : Dev nD => (atPos ER (barCell c) 0 ∅ 0 : sProp 𝕄)) :=
  Entails.of_eq (bigSep_map (s := Finset.univ) barEmb (Φ := fun g : GSem nD τ sig => (atPos ER g 0 ∅ 0 : sProp 𝕄)))
theorem dealt_open : bigSep xCells (fun g => (openTok ER g : sProp 𝕄)) ⊢ bigSep Finset.univ (fun c : Dev nD => four (fun k j => openTok ER (xcell c k j))) :=
  Entails.of_eq (by
    rw [bigSep_map, bigSep_univ_prod]
    exact bigSep_congr fun c _ => four_eq fun k j => openTok ER (xcell c k j))

theorem dealt : iprop(bigSep barCells (fun g => (atPos ER g 0 ∅ 0 : sProp 𝕄)) ∗ bigSep xCells (fun g => openTok ER g)
      ∗ bigSep allToks (fun x => dutyTok ER x.1 x.2.1 x.2.2)) ⊢ bigSep Finset.univ fun c : Dev nD => mine (F := F) c := by
  unfold mine
  rw [bigSep_sep', bigSep_sep']
  iintro ⟨Hat, Hopen, Htok⟩
  isplitl [Htok]; · iapply (toks_dealt (F := F)); iexact Htok
  isplitl [Hat]; · iapply (dealt_pos (F := F)); iexact Hat
  iapply (dealt_open (F := F)); iexact Hopen

theorem G_eq : bigSep Finset.univ (G (F := F)) = BI.own (ER (launchOf barCells xCells allToks)) := bigSep_onZero _

theorem regroup {φ : Prop} {A B C R M : sProp 𝕄} (h₁ : iprop(A ∗ B) ⊢ R) (h₂ : C ⊢ M) : iprop(⌜φ⌝ ∗ A ∗ B ∗ C) ⊢ iprop(R ∗ M) := by
  iintro ⟨-, HA, HB, HC⟩
  isplitl [HA HB]
  · iapply h₁; isplitl [HA] <;> iassumption
  · iapply h₂; iexact HC

theorem records_intro (part : Dev nD → FVec F S512x512 .bf16) (K : GSem nD τ sig → ℕ) :
    iprop((bigSep (barCells ∪ xCells) fun g => cellInv ER (sched part) (K g) g) ∗ bigSep barCells fun g => reached ER g 0) ⊢ records part K := by
  unfold records; exact .rfl

/-- The ghost state of both exchanges, made from the barriers' counters and the launch element. -/
theorem funded (part : Dev nD → FVec F S512x512 .bf16) : iprop(bigSep Finset.univ (fun c : Dev nD => (semVal (barCell c) 0 : sProp 𝕄)) ∗ bigSep Finset.univ (G (F := F)))
    ⊢ (|={Set.univ}=> ∃ K, records part K ∗ bigSep Finset.univ fun c : Dev nD => mine c : sProp 𝕄) := by
  rw [G_eq]
  refine (sep_mono_left (dealt_vals (F := F))).trans ?_
  refine (Rounds.fund_launch ER (sched part) disjoint_cells (fun g _ h => h) allToks (Es := Set.univ)).trans ?_
  exact BI.fupd_mono (exists_mono fun K => regroup (records_intro part K) dealt)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore : iprop(bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop(bigSep Finset.univ fun c : Dev nD => iprop(bundle m c ∗ (semVal (barCell c) 0 ∗ G c))) := bigSep_mono fun c _ => core m ρ c
  refine sep_elim_left.trans (hcore.trans (apart.trans ?_))
  iintro ⟨HB, H3⟩
  ihave H4 := apart $$ H3
  imod (funded (partOf m)) $$ H4 with ⟨%K, #HR, Hm⟩
  imodintro
  iapply (bigSep_with_persistent (R := records (partOf m) K) (Φ := fun c => iprop(mine c ∗ bundle m c)) fun c _ => T₀_intro m K c)
  isplitr; · iexact HR
  iapply beside_each
  isplitl [Hm] <;> iassumption

/-! ## The run -/

abbrev mySegs (c : Dev nD) := segs m (outs m) 𝒱₀ L lv (beside m) () (dats m) (reg m) c

/-- Every unscoped buffer at the end, on every device, and every counter at zero. -/
theorem run_main : θ_run defs (onTc (τ := τ) (main (F := F))) ⟨m, fun _ => 0, ρ⟩
    (fun r => (∀ c : Dev nD, ∀ b ∈ Pipeline.ucRefs τ sig, r.2.mem (c, b) = V3 m (outs m) c b) ∧ r.2.sem = fun _ => 0) :=
  Pipeline.θ_run_regions_kit_dev_sems (pcfgs (F := F)) adm (dats m) () cellOf_inj EP defs₀ 𝒱₀ L lv m ρ main (mySegs m)
    (fun c Q => by
      rewrite [main_chain c, Pipeline.Seg.run_eq_chain,
        show (mySegs m c).map Pipeline.Seg.prog = [StableHlo.seq (hostOps0 c), Prog.lift (.customCall (Pipeline.entry 0) ()), StableHlo.seq hostOps1] from rfl]
      dsimp (config := { failIfUnchanged := false }) only
      exact .rfl)
    (fun c => by simp only [mySegs, segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := fun c => ⟨.rfl, reg_pre m c, reg_post m c, by
      show iprop(StableHlo.held (c : Thread nD τ) (Pipeline.ucRefs τ sig) (V3 m (outs m) c) ∗ (semVal (barCell c) 0 ∗ owing c 0))
        ⊢ iprop(Tₙ m c ∗ ∃ W, owes (c : Thread nD τ) (0 : CellTallies nD τ sig Unit) W)
      iintro ⟨Hh, Hb0, HO⟩
      isplitr [HO]
      · isplitl [Hh] <;> iassumption
      · iexact HO⟩)
    (hinit := init m ρ)
    (QY := fun c s => (∀ b ∈ Pipeline.ucRefs τ sig, s.mem (c, b) = V3 m (outs m) c b) ∧ s.sem (barCell c) = 0)
    (hfin := fun c s' => by
      dsimp only [Tₙ]; unfold StableHlo.held
      iintro ⟨⟨Hh, Hb0⟩, HSI⟩
      icombine HSI Hb0 gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1,
      sem_eq_zero hs fun c sm hsm => by
        obtain rfl := unscoped_eq sm hsm
        exact (h c).2⟩)

end Cert.KernelIdeal.Run

end
-- ==== Proof.Frames.lean ====
/-
  The three frames. The run of the idealized kernel is stated over any float values; the kernel as printed is the same program with the mask's float word in
  place of the named constant, so its frame is that run at the words.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.KernelIdeal.Run

open Idealize.ShloMosaic
open Idealize.ShloMosaic.TcCoe
open Idealize.SL.Sem
open Cert.KernelIdeal.Gen

section
variable {F : FTy → Type} [FloatOps F] [Named F]
variable (m : (ℓ : Loc nD τ sig) → Buf (Elt F) ℓ) (ρ : Dev nD → PrngReg)

/-- A final state keeps the arguments. -/
theorem args_kept {s : MemSt nD τ sig (Elt F)} (c : Dev nD) (h : ∀ b ∈ Pipeline.ucRefs τ sig, s.mem (c, b) = V3 m (outs m) c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4) :=
  ⟨(h main_arg0 (Finset.mem_filter.mpr ⟨StableHlo.devRef_mem_tcRefs main_arg0, by decide⟩)).trans (V3_main_arg0 m (outs m) c),
    (h main_arg1 (Finset.mem_filter.mpr ⟨StableHlo.devRef_mem_tcRefs main_arg1, by decide⟩)).trans (V3_main_arg1 m (outs m) c),
    (h main_arg2 (Finset.mem_filter.mpr ⟨StableHlo.devRef_mem_tcRefs main_arg2, by decide⟩)).trans (V3_main_arg2 m (outs m) c),
    (h main_arg3 (Finset.mem_filter.mpr ⟨StableHlo.devRef_mem_tcRefs main_arg3, by decide⟩)).trans (V3_main_arg3 m (outs m) c),
    (h main_arg4 (Finset.mem_filter.mpr ⟨StableHlo.devRef_mem_tcRefs main_arg4, by decide⟩)).trans (V3_main_arg4 m (outs m) c)⟩
/-- The frame, over any float values. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c => args_kept m c (h.1 c), h.2⟩) (run_main m ρ)
end

theorem frame_ideal : Cert.quiescent_KernelIdeal := fun m ρ _ => frame_any (F := Ideal) m ρ

/-- Over the float words a named constant is its word. -/
@[reducible] def wordNamed : Named Bits where
  named _ _ {_φ} bits := FloatOps.ofBits _ bits

/-- Over the float words the two programs' kernel tables are one. -/
theorem bodies_words [Cert.Kernel.Facts] : @Cert.Kernel.defs₀ Bits _ _ = (letI := wordNamed; @Cert.KernelIdeal.defs₀ Bits _ _ _) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- And so are the tables with the pipelines. -/
theorem tables_words [Cert.Kernel.Facts] : @Cert.Kernel.defs Bits _ _ = (letI := wordNamed; @Cert.KernelIdeal.defs Bits _ _ _) :=
  congrArg (Pipeline.defs (Cert.Kernel.pcfgs (F := Bits))) bodies_words

theorem main_words [Cert.Kernel.Facts] : Cert.Kernel.main (F := Bits) = (letI := wordNamed; Cert.KernelIdeal.main (F := Bits)) := rfl

theorem frame_kernel : Cert.quiescent_Kernel := fun m ρ _ => by
  rw [tables_words, main_words]
  exact (letI := wordNamed; frame_any (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem mask_named : Cert.preserves_Kernel_KernelIdeal := IdealRules.named_const.statement _ _ _ _ _ rfl

end Cert.KernelIdeal.Run

end
-- ==== Proof.Softmax.lean ====
/-
  Attention over one row, on extended reals: the weights are the exponentials of the scores less their greatest, over their sum. A score of −∞ weighs nothing, so
  a row whose scores are real in one block and −∞ outside it attends as the block alone does.
-/
module

public import Idealize.ShloMosaic.PureOps.Ideal

@[expose] public section

noncomputable section

namespace Cert.Attention

open Idealize.ShloMosaic

/-- The greatest of a row's scores, from −∞. -/
def top {n : ℕ} (s : Fin n → EReal) : EReal := Finset.univ.fold max ⊥ s

/-- A score's weight before the division. -/
def weight {n : ℕ} (s : Fin n → EReal) (j : Fin n) : EReal := Ideal.exp (s j - top s)

/-- What a row attends to. -/
def attend {n : ℕ} (s v : Fin n → EReal) : EReal := ∑ j, Ideal.div (weight s j) (∑ l, weight s l) * v j

theorem top_eq {n : ℕ} (s : Fin n → EReal) : top s = Finset.univ.sup s := rfl

/-- The greatest score of a row that is −∞ outside a block is the block's. -/
theorem top_block {n k : ℕ} (s : Fin n → EReal) (f : Fin k → Fin n) (hs : ∀ j, j ∉ Set.range f → s j = ⊥) : top s = top (s ∘ f) := by
  rw [top_eq, top_eq]
  apply le_antisymm
  · refine Finset.sup_le fun j _ => ?_
    by_cases h : j ∈ Set.range f
    · obtain ⟨e, rfl⟩ := h
      exact Finset.le_sup (f := s ∘ f) (Finset.mem_univ e)
    · rw [hs j h]
      exact bot_le
  · exact Finset.sup_le fun e _ => Finset.le_sup (f := s) (Finset.mem_univ (f e))

/-- The greatest of finitely many reals is real. -/
theorem top_real {k : ℕ} [NeZero k] (s : Fin k → EReal) (hs : ∀ e, ∃ r : ℝ, s e = r) : ∃ r : ℝ, top s = r := by
  obtain ⟨e, _, he⟩ := Finset.exists_mem_eq_sup Finset.univ Finset.univ_nonempty s
  obtain ⟨r, hr⟩ := hs e
  exact ⟨r, (top_eq s).trans (he.trans hr)⟩

/-- A sum whose terms vanish outside a block is the block's. -/
theorem sum_block {n k : ℕ} (g : Fin n → EReal) (f : Fin k → Fin n) (hf : Function.Injective f) (hg : ∀ j, j ∉ Set.range f → g j = 0) :
    ∑ j, g j = ∑ e, g (f e) :=
  (Fintype.sum_of_injective f hf (fun e => g (f e)) g hg fun _ => rfl).symm

/-- A positive real is not zero, and neither is a sum of some. -/
theorem sum_exp_ne {k : ℕ} [NeZero k] (s : Fin k → EReal) (hs : ∀ e, ∃ r : ℝ, s e = r) : ∑ l, weight s l ≠ 0 := by
  obtain ⟨t, ht⟩ := top_real s hs
  have hp : ∀ e, 0 < weight s e := fun e => by
    obtain ⟨r, hr⟩ := hs e
    unfold weight
    rw [hr, ht, ← EReal.coe_sub]
    exact EReal.coe_pos.mpr (Real.exp_pos _)
  exact ((hp 0).trans_le (Finset.single_le_sum (fun e _ => (hp e).le) (Finset.mem_univ 0))).ne'

/-- A row whose scores are real on a block and −∞ outside it attends as the block does. -/
theorem attend_block {n k : ℕ} [NeZero k] (s v : Fin n → EReal) (f : Fin k → Fin n) (hf : Function.Injective f)
    (hs : ∀ j, j ∉ Set.range f → s j = ⊥) (hr : ∀ e, ∃ r : ℝ, s (f e) = r) : attend s v = attend (s ∘ f) (v ∘ f) := by
  obtain ⟨t, ht⟩ := top_real (s ∘ f) hr
  have hw : ∀ j, j ∉ Set.range f → weight s j = 0 := fun j hj => by
    unfold weight
    rw [hs j hj, top_block s f hs, ht, EReal.bot_sub]
    rfl
  have hin : ∀ e, weight s (f e) = weight (s ∘ f) e := fun e => by
    unfold weight
    rw [top_block s f hs]
    rfl
  have hsum : ∑ l, weight s l = ∑ l, weight (s ∘ f) l := by
    rw [sum_block _ f hf hw]
    exact Finset.sum_congr rfl fun e _ => hin e
  unfold attend
  rw [hsum]
  have hz := sum_exp_ne (s ∘ f) hr
  rw [sum_block _ f hf fun j hj => by rw [hw j hj]; unfold Ideal.div; rw [if_neg hz, zero_mul, zero_mul]]
  exact Finset.sum_congr rfl fun e _ => by rw [hin e]; rfl

end Cert.Attention

end
-- ==== Proof.Value.lean ====
/-
  What the kernel computes, entry by entry: every head attends over all 512 rows, and the rows that are not in the block of its own row weigh nothing.
-/
module

public import proofs.«01_k».proof.Proof.Slots
public import proofs.«01_k».proof.Proof.Attend
public import proofs.«01_k».proof.Proof.Softmax
public import Idealize.ShloMosaic.Lib.Pointwise
public import Idealize.ShloMosaic.Lib.IdealHost

@[expose] public section

set_option maxRecDepth 16384

noncomputable section

namespace Cert.KernelIdeal.Run

open Idealize.ShloMosaic
open Cert.KernelIdeal.Gen Cert.Attention

/-! ## The mask -/

/-- The floor of a row number over 64, as the kernel takes it. -/
def floorWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi ArithUnit.vector w 64#32) 0#32))
    (IntOp.subi (IntOp.divsi ArithUnit.vector w 64#32) 1#32)
    (IntOp.divsi ArithUnit.vector w 64#32)

theorem floorWord_eq : ∀ r : Fin 512, floorWord (BitVec.ofNat 32 r.val) = BitVec.ofNat 32 (r.val / 64) := by
  decide +kernel

theorem eq_small : ∀ a b : Fin 8, IntOp.cmpi .eq (BitVec.ofNat 32 a.val) (BitVec.ofNat 32 b.val) = if a.val = b.val then 1#1 else 0#1 := by
  decide +kernel

theorem mask_entry (r j : Fin 512) :
    k0_pay5 k0_pay2 k0_pay3 k0_pay4 (ix2 r j) = if r.val / 64 = j.val / 64 then 1#1 else 0#1 := by
  pointwise [k0_pay5, k0_pay2, k0_pay3, k0_pay4]
  show IntOp.cmpi .eq (floorWord (BitVec.ofNat 32 r.val)) (floorWord (BitVec.ofNat 32 j.val)) = _
  rw [floorWord_eq, floorWord_eq]
  exact eq_small ⟨r.val / 64, by omega⟩ ⟨j.val / 64, by omega⟩

/-! ## The heads -/

theorem neg_inf : Ideal.ofBits .f32 0xFF800000#32 = ⊥ := by simp [Ideal.ofBits, Ideal.ieee]

theorem mask_value : Named.named (F := Ideal) (φ := .f32) κ "mask" 0xCE6E6B28#32 = ⊥ :=
  IdealRules.named_const.ideal_named_scalar κ "mask" _ ⊥ rfl

theorem select_if {α : Type} (p : Prop) [Decidable p] (x y : α) : Scalar.select (if p then 1#1 else 0#1) x y = if p then x else y := by
  split <;> rfl

def scale : EReal := Ideal.ofBits .f32 0x3E000000#32

/-- The score of row `j` of the keys for row `r` of the queries. -/
def score (x : FVec Ideal S512x512 .bf16) (wq : FVec Ideal S512x256 .bf16) (k : FVec Ideal S512x4x64 .bf16) (h : Fin 4) (r j : Fin 512) : EReal :=
  if r.val / 64 = j.val / 64 then
    ∑ d : Fin 64, (∑ a : Fin 512, x (ix2 r a) * wq (ix2 a ⟨64 * h.val + d.val, by omega⟩)) * scale * k (ix3 j h d) else ⊥

variable (x : FVec Ideal S512x512 .bf16) (wq : FVec Ideal S512x256 .bf16) (k v : FVec Ideal S512x4x64 .bf16) (wo : FVec Ideal S256x512 .bf16)

theorem score_zero (r : Fin 512) : score x wq k 0 r = fun j => if r.val / 64 = j.val / 64 then
    ∑ d : Fin 64, (∑ a : Fin 512, x (ix2 r a) * wq (ix2 a ⟨d.val, by omega⟩)) * scale * k (ix3 j 0 d) else ⊥ := by
  funext j
  simp [score]

theorem head_entry (h : Fin 4) (r : Fin 512) (e : Fin 64) :
    headV x wq k v h (ix2 r e) = attend (score x wq k h r) (fun j => v (ix3 j h e)) := by
  match h with
  | 0 =>
    unfold headV
    pointwise [k0_pay8, k0_pay7, k0_pay6, k0_pay1, headOf]
    simp only [mask_entry, neg_inf, mask_value, select_if]
    rw [score_zero]
    rfl
  | 1 =>
    unfold headV
    pointwise [k0_pay9, k0_pay1, headOf]
    simp only [mask_entry, neg_inf, mask_value, select_if]
    rfl
  | 2 =>
    unfold headV
    pointwise [k0_pay11, k0_pay10, k0_pay1, headOf]
    simp only [mask_entry, neg_inf, mask_value, select_if]
    rfl
  | 3 =>
    unfold headV
    pointwise [k0_pay14, k0_pay12, k0_pay13, k0_pay1, headOf]
    simp only [mask_entry, neg_inf, mask_value, select_if]
    rfl

theorem part_entry (r : Fin 512) (e : Fin 512) :
    partV x wq k v wo (ix2 r e) = ∑ n : Fin 256, attend (score x wq k (headNo n) r) (fun j => v (ix3 j (headNo n) (inHead n))) * wo (ix2 n e) := by
  unfold partV
  pointwise [k0_pay15]
  exact Finset.sum_congr rfl fun n _ => congrArg (· * wo (ix2 n e)) (head_entry x wq k v (headNo n) r (inHead n))

/-! ## The sum over the mesh -/

variable (part : Dev nD → FVec Ideal S512x512 .bf16)

theorem red_entry (c : Dev nD) (r : Fin 16) (e : Fin 512) :
    redV part c (ix2 r e) = part c (ix2 (rowOf c r) e) + ∑ j : Fin 31, part (behind c j) (ix2 (rowOf c r) e) := by
  unfold redV
  pointwise [k0_pay48, k0_pay47]
  rfl

end Cert.KernelIdeal.Run

end
-- ==== Proof.Reference.lean ====
/-
  What the reference computes, in named steps, and its entries: the blocks' mask, the scores of a row, the context and the product with the output weights.
-/
module

public import proofs.«01_k».proof.Proof.Gen.ReferenceIdeal
public import proofs.«01_k».proof.Proof.Gen.ReferenceIdeal.Run
public import proofs.«01_k».proof.Proof.Softmax
public import Idealize.ShloMosaic.Lib.Pointwise
public import Idealize.ShloMosaic.Lib.Routing.OpsOrder

@[expose] public section

set_option maxRecDepth 16384

noncomputable section

namespace Cert.ReferenceIdeal.Value

open Idealize.ShloMosaic
open Idealize.ShloMosaic.TcCoe
open Cert.ReferenceIdeal Cert.ReferenceIdeal.Gen
open Facts
open Cert.Attention

/-! ## The steps -/

section
variable {F : FTy → Type} [FloatOps F]

/-- A position's block: its quotient by 64, rounded down. -/
def blockNo : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The modulus four, with the guard against zero. -/
def modulus : IVec S_ 32 := select (cmpi .eq (id (constantI S_ 32 4#32)) (constantI S_ 32 0#32)) (constantI S_ 32 1#32) (id (constantI S_ 32 4#32))

/-- The remainder by the modulus, with the modulus' sign. -/
def floorMod (t : Shape) (b : S_.BroadcastsInDim t (![] : Fin 0 → Fin t.rank)) (v : IVec t 32) : IVec t 32 :=
  select (andi (cmpi .ne (cmpi .slt (Host.remsi v (broadcastInDim t ![] b modulus)) (broadcastInDim t ![] b (constantI S_ 32 0#32)))
        (broadcastInDim t ![] b (cmpi .slt modulus (constantI S_ 32 0#32))))
      (cmpi .ne (Host.remsi v (broadcastInDim t ![] b modulus)) (broadcastInDim t ![] b (constantI S_ 32 0#32))))
    (addi (Host.remsi v (broadcastInDim t ![] b modulus)) (broadcastInDim t ![] b modulus)) (Host.remsi v (broadcastInDim t ![] b modulus))

/-- The mask: equal blocks, or blocks equal modulo four. -/
def mask : IVec S256x256 1 :=
  ori (cmpi .eq (broadcastInDim S256x256 ![0, 1] bcast_S256x1_S256x256_0_1 (broadcastInDim S256x1 ![0] bcast_S256_S256x1_0 blockNo))
      (broadcastInDim S256x256 ![0, 1] bcast_S1x256_S256x256_0_1 (broadcastInDim S1x256 ![1] bcast_S256_S1x256_1 blockNo)))
    (cmpi .eq (broadcastInDim S256x256 ![0, 1] bcast_S1x256_S256x256_0_1 (floorMod S1x256 bcast_S_S1x256 (broadcastInDim S1x256 ![1] bcast_S256_S1x256_1 blockNo)))
      (broadcastInDim S256x256 ![0, 1] bcast_S256x1_S256x256_0_1 (floorMod S256x1 bcast_S_S256x1 (broadcastInDim S256x1 ![0] bcast_S256_S256x1_0 blockNo))))

/-- The rows with a position left: all of them. -/
def keep : IVec S256 1 := Host.reduce IntOp.ori mask (constantI S_ 1 0#1) reducesTo_S256x256_S256_d1 h_S_

/-- The masked scores. -/
def scores (x : FVec F S2x256x512 .bf16) (wq : FVec F S512x8192 .bf16) (k : FVec F S2x256x128x64 .bf16) : FVec F S2x128x256x256 .f32 :=
  select (broadcastInDim S2x128x256x256 ![0, 1, 2, 3] bcast_S1x1x256x256_S2x128x256x256_0_1_2_3 (broadcastInDim S1x1x256x256 ![2, 3] bcast_S256x256_S1x1x256x256_2_3 mask))
    (mulf (extf .f32 (truncf .bf16 (Host.dotGeneral dot_S2x256x128x64_S2x256x128x64_S2x128x256x256_3_3_1_1_02_02 none
        (shapeCast _ (extf .f32 (truncf .bf16 (Host.dotGeneral dot_S2x256x512_S512x8192_S2x256x8192_2_0_01_1_n_n none (extf .f32 x bitsLt_bf16_f32) (extf .f32 wq bitsLt_bf16_f32))
          bitsLt_bf16_f32) bitsLt_bf16_f32) shapeCasts_S2x256x8192_S2x256x128x64) (extf .f32 k bitsLt_bf16_f32)) bitsLt_bf16_f32) bitsLt_bf16_f32)
      (broadcastInDim S2x128x256x256 ![] bcast_S_S2x128x256x256 (constant S_ .f32 0x3E000000#32)))
    (broadcastInDim S2x128x256x256 ![] bcast_S_S2x128x256x256 (id (constant S_ .f32 0xFF800000#32)))

/-- The exponentials of the scores less the row's greatest. -/
def weights (s : FVec F S2x128x256x256 .f32) : FVec F S2x128x256x256 .f32 :=
  Host.exp (subf s (broadcastInDim S2x128x256x256 ![0, 1, 2, 3] bcast_S2x128x256x1_S2x128x256x256_0_1_2_3 (broadcastInDim S2x128x256x1 ![0, 1, 2] bcast_S2x128x256_S2x128x256x1_0_1_2
    (Host.reduce FloatOps.maximumf s (constant S_ .f32 0xFF800000#32) reducesTo_S2x128x256x256_S2x128x256_d3 h_S_))))

/-- The weights over their sum, in the rows that are kept. -/
def shares (w : FVec F S2x128x256x256 .f32) : FVec F S2x128x256x256 .f32 :=
  select (broadcastInDim S2x128x256x256 ![0, 1, 2, 3] bcast_S1x1x256x1_S2x128x256x256_0_1_2_3 (broadcastInDim S1x1x256x1 ![2] bcast_S256_S1x1x256x1_2 keep))
    (Host.divf w (broadcastInDim S2x128x256x256 ![0, 1, 2, 3] bcast_S2x128x256x1_S2x128x256x256_0_1_2_3
      (select (broadcastInDim S2x128x256x1 ![0, 1, 2, 3] bcast_S1x1x256x1_S2x128x256x1_0_1_2_3 (broadcastInDim S1x1x256x1 ![2] bcast_S256_S1x1x256x1_2 keep))
        (broadcastInDim S2x128x256x1 ![0, 1, 2] bcast_S2x128x256_S2x128x256x1_0_1_2 (Host.reduceAdd w (constant S_ .f32 0x00000000#32) reducesTo_S2x128x256x256_S2x128x256_d3 h_S_))
        (broadcastInDim S2x128x256x1 ![] bcast_S_S2x128x256x1 (id (constant S_ .f32 0x3F800000#32))))))
    (broadcastInDim S2x128x256x256 ![] bcast_S_S2x128x256x256 (id (constant S_ .f32 0x00000000#32)))

/-- The context, every head's columns side by side. -/
def context (p : FVec F S2x128x256x256 .f32) (v : FVec F S2x256x128x64 .bf16) : FVec F S2x256x8192 .f32 :=
  shapeCast _ (transpose S2x256x128x64 [0, 3, 1, 2] (Host.dotGeneral dot_S2x256x128x64_S2x128x256x256_S2x128x64x256_1_3_3_2_02_01 none (extf .f32 v bitsLt_bf16_f32) p)
    transposes_S2x128x64x256_S2x256x128x64_0_3_1_2) shapeCasts_S2x256x128x64_S2x256x8192

/-- The product with the output weights. -/
def product (c : FVec F S2x256x8192 .f32) (wo : FVec F S8192x512 .bf16) : FVec F S2x256x512 .bf16 :=
  truncf .bf16 (Host.dotGeneral dot_S2x256x8192_S8192x512_S2x256x512_2_0_01_1_n_n none c (extf .f32 wo bitsLt_bf16_f32)) bitsLt_bf16_f32

/-- The reference's result is these steps. -/
theorem result_eq (m : (ℓ : Loc nD τ sig) → Buf (Elt F) ℓ) (c : Dev nD) :
    res_out0 m c = product (context (shares (weights (scores (m ((c.tc : Thread nD τ).loc main_arg0)) (m ((c.tc : Thread nD τ).loc main_arg1)) (m ((c.tc : Thread nD τ).loc main_arg2)))))
      (m ((c.tc : Thread nD τ).loc main_arg3))) (m ((c.tc : Thread nD τ).loc main_arg4)) := rfl
end

/-! ## The entries -/

theorem blockNo_apply : ∀ i : Fin 256, blockNo (ix1 i) = BitVec.ofNat 32 (i.val / 64) := by
  decide +kernel

/-- There are four blocks, so equal modulo four is equal. -/
theorem mask_apply (i j : Fin 256) : mask (ix2 i j) = if i.val / 64 = j.val / 64 then 1#1 else 0#1 := by
  pointwise [mask, floorMod, modulus]
  rw [blockNo_apply, blockNo_apply]
  obtain ⟨a, ha⟩ : ∃ a : Fin 4, i.val / 64 = a.val := ⟨⟨i.val / 64, by omega⟩, rfl⟩
  obtain ⟨b, hb⟩ : ∃ b : Fin 4, j.val / 64 = b.val := ⟨⟨j.val / 64, by omega⟩, rfl⟩
  rw [ha, hb]
  clear ha hb
  revert a b
  decide +kernel

theorem keep_apply (i : Fin 256) : keep (ix1 i) = 1#1 := by
  pointwise [keep]
  exact (Routing.fold_ori _ _).mpr ⟨i, Finset.mem_univ i, by rw [mask_apply, if_pos rfl]⟩

theorem neg_inf : Ideal.ofBits .f32 0xFF800000#32 = ⊥ := by simp [Ideal.ofBits, Ideal.ieee]

/-- The factor of the scores. -/
def scale : EReal := Ideal.ofBits .f32 0x3E000000#32

theorem scores_apply (x : FVec Ideal S2x256x512 .bf16) (wq : FVec Ideal S512x8192 .bf16) (k : FVec Ideal S2x256x128x64 .bf16) (b : Fin 2) (h : Fin 128) (i j : Fin 256) :
    scores x wq k (ix4 b h i j) = if i.val / 64 = j.val / 64 then
      (∑ d : Fin 64, (∑ a : Fin 512, x (ix3 b i a) * wq (ix2 a ⟨h.val * 64 + d.val, by omega⟩)) * k (ix4 b j h d)) * scale else ⊥ := by
  pointwise [scores]
  rw [mask_apply]
  split
  · rfl
  · exact neg_inf

theorem weights_apply (s : FVec Ideal S2x128x256x256 .f32) (b : Fin 2) (h : Fin 128) (i j : Fin 256) :
    weights s (ix4 b h i j) = weight (fun l => s (ix4 b h i l)) j := by
  pointwise [weights]
  rw [neg_inf]
  rfl

theorem shares_apply (s : FVec Ideal S2x128x256x256 .f32) (b : Fin 2) (h : Fin 128) (i j : Fin 256) :
    shares s (ix4 b h i j) = Ideal.div (s (ix4 b h i j)) (∑ l, s (ix4 b h i l)) := by
  pointwise [shares]
  rw [keep_apply]
  rfl

theorem context_apply (p : FVec Ideal S2x128x256x256 .f32) (v : FVec Ideal S2x256x128x64 .bf16) (b : Fin 2) (i : Fin 256) (e : Fin 8192) :
    context p v (ix3 b i e) = ∑ l, p (ix4 b ⟨e.val / 64, by omega⟩ i l) * v (ix4 b l ⟨e.val / 64, by omega⟩ ⟨e.val % 64, by omega⟩) := by
  pointwise [context]
  exact Finset.sum_congr rfl fun l _ => mul_comm _ _

theorem product_apply (p : FVec Ideal S2x256x8192 .f32) (w : FVec Ideal S8192x512 .bf16) (b : Fin 2) (i : Fin 256) (e : Fin 512) :
    product p w (ix3 b i e) = ∑ n : Fin 8192, p (ix3 b i n) * w (ix2 n e) := by
  pointwise [product]

/-- An entry of the result: the attended values of every column, with the output weights. -/
theorem entry (x : FVec Ideal S2x256x512 .bf16) (wq : FVec Ideal S512x8192 .bf16) (k v : FVec Ideal S2x256x128x64 .bf16) (wo : FVec Ideal S8192x512 .bf16)
    (b : Fin 2) (i : Fin 256) (e : Fin 512) :
    product (context (shares (weights (scores x wq k))) v) wo (ix3 b i e) = ∑ n : Fin 8192,
      attend (fun l => scores x wq k (ix4 b ⟨n.val / 64, by omega⟩ i l)) (fun l => v (ix4 b l ⟨n.val / 64, by omega⟩ ⟨n.val % 64, by omega⟩)) * wo (ix2 n e) := by
  rw [product_apply]
  refine Finset.sum_congr rfl fun n _ => ?_
  rw [context_apply]
  simp only [shares_apply, weights_apply]
  rfl

end Cert.ReferenceIdeal.Value

end
-- ==== Proof.Agree.lean ====
/-
  The two programs agree: a device's partial product is the reference's sum over the device's own 256 columns of the context, and the mesh adds up all of them.
-/
module

public import proofs.«01_k».proof.Proof.Value
public import proofs.«01_k».proof.Proof.Reference

@[expose] public section

noncomputable section

namespace Cert.Agree

open Idealize.ShloMosaic
open Cert.Attention Cert.KernelIdeal.Run

/-! ## Reals -/

/-- An extended real that is a real. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {n : ℕ} (g : Fin n → ℝ) : ((∑ i, g i : ℝ) : EReal) = ∑ i, (g i : EReal) :=
  map_sum (⟨⟨fun r : ℝ => (r : EReal), rfl⟩, EReal.coe_add⟩ : ℝ →+ EReal) g Finset.univ

theorem IsReal.sum {n : ℕ} {f : Fin n → EReal} (hf : ∀ i, IsReal (f i)) : IsReal (∑ i, f i) := by
  choose g hg using hf
  exact ⟨∑ i, g i, by rw [coe_sum]; exact Finset.sum_congr rfl fun i _ => hg i⟩

theorem scale_real : IsReal scale := by
  unfold scale
  simp only [Ideal.ofBits, Ideal.ieee]
  norm_num
  exact ⟨_, (EReal.coe_mul _ _).symm⟩

/-- A real factor can be taken into a product with a real or out of it. -/
theorem sum_scale {n : ℕ} (q k : Fin n → EReal) (s : EReal) (hq : ∀ d, IsReal (q d)) (hk : ∀ d, IsReal (k d)) (hs : IsReal s) :
    ∑ d, q d * s * k d = (∑ d, q d * k d) * s := by
  choose q' hq using hq
  choose k' hk using hk
  obtain ⟨s', rfl⟩ := hs
  simp only [hq, hk, ← EReal.coe_mul, ← coe_sum]
  rw [Finset.sum_mul]
  exact congrArg _ (Finset.sum_congr rfl fun d _ => by ring)

/-! ## A device's share -/

/-- A batch's row in the flat order. -/
def row (b : Fin 2) (i : Fin 256) : Fin 512 := ⟨b.val * 256 + i.val, by omega⟩
/-- A head of a device. -/
def headAt (c : Fin 32) (h : Fin 4) : Fin 128 := ⟨c.val * 4 + h.val, by omega⟩
/-- A column of a device. -/
def colAt (c : Fin 32) (n : Fin 256) : Fin 8192 := ⟨c.val * 256 + n.val, by omega⟩
def headCol (n : Fin 8192) : Fin 128 := ⟨n.val / 64, by omega⟩
def inCol (n : Fin 8192) : Fin 64 := ⟨n.val % 64, by omega⟩
/-- The rows of a row's own block, in its batch and in the flat order. -/
def near (i : Fin 256) (e : Fin 64) : Fin 256 := ⟨i.val / 64 * 64 + e.val, by omega⟩
def nearRow (r : Fin 512) (e : Fin 64) : Fin 512 := ⟨r.val / 64 * 64 + e.val, by omega⟩

theorem nearRow_row (b : Fin 2) (i : Fin 256) (e : Fin 64) : nearRow (row b i) e = row b (near i e) :=
  Fin.ext (by simp only [nearRow, row, near]; omega)

theorem near_out (i j : Fin 256) (h : j ∉ Set.range (near i)) : i.val / 64 ≠ j.val / 64 := fun he =>
  h ⟨⟨j.val % 64, by omega⟩, Fin.ext (by simp only [near]; omega)⟩
theorem nearRow_out (i j : Fin 512) (h : j ∉ Set.range (nearRow i)) : i.val / 64 ≠ j.val / 64 := fun he =>
  h ⟨⟨j.val % 64, by omega⟩, Fin.ext (by simp only [nearRow]; omega)⟩
theorem near_in (i : Fin 256) (e : Fin 64) : i.val / 64 = (near i e).val / 64 := by simp only [near]; omega
theorem nearRow_in (i : Fin 512) (e : Fin 64) : i.val / 64 = (nearRow i e).val / 64 := by simp only [nearRow]; omega
theorem near_inj (i : Fin 256) : Function.Injective (near i) := fun a b h => Fin.ext (by have := congrArg Fin.val h; simp only [near] at this; omega)
theorem nearRow_inj (i : Fin 512) : Function.Injective (nearRow i) := fun a b h => Fin.ext (by have := congrArg Fin.val h; simp only [nearRow] at this; omega)

variable (X : FVec Ideal ReferenceIdeal.S2x256x512 .bf16) (Wq : FVec Ideal ReferenceIdeal.S512x8192 .bf16)
  (K V : FVec Ideal ReferenceIdeal.S2x256x128x64 .bf16) (Wo : FVec Ideal ReferenceIdeal.S8192x512 .bf16)

/-- A column's share of an entry of the reference's result. -/
def share (b : Fin 2) (i : Fin 256) (e : Fin 512) (n : Fin 8192) : EReal :=
  attend (fun l => ReferenceIdeal.Value.scores X Wq K (ix4 b (headCol n) i l)) (fun l => V (ix4 b l (headCol n) (inCol n))) * Wo (ix2 n e)

/-- What a device holds of the whole arrays. -/
structure Holds (c : Fin 32) (x : FVec Ideal KernelIdeal.S512x512 .bf16) (wq : FVec Ideal KernelIdeal.S512x256 .bf16)
    (k v : FVec Ideal KernelIdeal.S512x4x64 .bf16) (wo : FVec Ideal KernelIdeal.S256x512 .bf16) : Prop where
  x : ∀ b i a, x (ix2 (row b i) a) = X (ix3 b i a)
  wq : ∀ a n, wq (ix2 a n) = Wq (ix2 a (colAt c n))
  k : ∀ b i h d, k (ix3 (row b i) h d) = K (ix4 b i (headAt c h) d)
  v : ∀ b i h d, v (ix3 (row b i) h d) = V (ix4 b i (headAt c h) d)
  wo : ∀ n e, wo (ix2 n e) = Wo (ix2 (colAt c n) e)

variable {X Wq K V Wo} {c : Fin 32} {x : FVec Ideal KernelIdeal.S512x512 .bf16} {wq : FVec Ideal KernelIdeal.S512x256 .bf16}
  {k v : FVec Ideal KernelIdeal.S512x4x64 .bf16} {wo : FVec Ideal KernelIdeal.S256x512 .bf16}

theorem scores_real (hX : ∀ i, IsReal (X i)) (hQ : ∀ i, IsReal (Wq i)) (hK : ∀ b i h d, IsReal (K (ix4 b i h d))) (b : Fin 2) (h : Fin 128) (i : Fin 256) (e : Fin 64) :
    IsReal (ReferenceIdeal.Value.scores X Wq K (ix4 b h i (near i e))) := by
  rw [ReferenceIdeal.Value.scores_apply, if_pos (near_in i e)]
  exact (IsReal.sum fun d => (IsReal.sum fun a => (hX _).mul (hQ _)).mul (hK _ _ _ _)).mul scale_real

/-- Inside a row's block, the kernel's score is the reference's. -/
theorem score_eq (H : Holds X Wq K V Wo c x wq k v wo) (hX : ∀ i, IsReal (X i)) (hQ : ∀ i, IsReal (Wq i)) (hK : ∀ b i h d, IsReal (K (ix4 b i h d)))
    (b : Fin 2) (h : Fin 4) (i : Fin 256) (e : Fin 64) :
    score x wq k h (row b i) (nearRow (row b i) e) = ReferenceIdeal.Value.scores X Wq K (ix4 b (headAt c h) i (near i e)) := by
  have hcol : ∀ d : Fin 64, colAt c ⟨64 * h.val + d.val, by omega⟩ = ⟨(headAt c h).val * 64 + d.val, by simp only [headAt]; omega⟩ := fun d =>
    Fin.ext (by simp only [colAt, headAt]; omega)
  rw [ReferenceIdeal.Value.scores_apply, if_pos (near_in i e), score, if_pos (nearRow_in _ e), nearRow_row]
  simp only [H.x, H.wq, H.k, hcol]
  exact sum_scale _ _ _ (fun d => IsReal.sum fun a => (hX _).mul (hQ _)) (fun d => hK _ _ _ _) scale_real

theorem attend_eq (H : Holds X Wq K V Wo c x wq k v wo) (hX : ∀ i, IsReal (X i)) (hQ : ∀ i, IsReal (Wq i)) (hK : ∀ b i h d, IsReal (K (ix4 b i h d)))
    (b : Fin 2) (h : Fin 4) (i : Fin 256) (d : Fin 64) :
    attend (score x wq k h (row b i)) (fun j => v (ix3 j h d)) =
      attend (fun l => ReferenceIdeal.Value.scores X Wq K (ix4 b (headAt c h) i l)) (fun l => V (ix4 b l (headAt c h) d)) := by
  rw [attend_block (score x wq k h (row b i)) _ (nearRow (row b i)) (nearRow_inj _) (fun j hj => show score x wq k h (row b i) j = ⊥ from if_neg (nearRow_out _ _ hj))
      (fun e => by rw [score_eq H hX hQ hK]; exact scores_real hX hQ hK b _ i e),
    attend_block (fun l => ReferenceIdeal.Value.scores X Wq K (ix4 b (headAt c h) i l)) _ (near i) (near_inj _)
      (fun j hj => (ReferenceIdeal.Value.scores_apply ..).trans (if_neg (near_out _ _ hj))) (fun e => scores_real hX hQ hK b _ i e)]
  congr 1
  · exact funext fun e => score_eq H hX hQ hK b h i e
  · exact funext fun e => (congrArg (fun r => v (ix3 r h d)) (nearRow_row b i e)).trans (H.v ..)

theorem part_eq (H : Holds X Wq K V Wo c x wq k v wo) (hX : ∀ i, IsReal (X i)) (hQ : ∀ i, IsReal (Wq i)) (hK : ∀ b i h d, IsReal (K (ix4 b i h d)))
    (b : Fin 2) (i : Fin 256) (e : Fin 512) :
    partV x wq k v wo (ix2 (row b i) e) = ∑ n : Fin 256, share X Wq K V Wo b i e (colAt c n) := by
  rw [part_entry]
  refine Finset.sum_congr rfl fun n _ => ?_
  have h₁ : headCol (colAt c n) = headAt c (headNo n) := Fin.ext (by simp only [headCol, colAt, headAt, headNo]; omega)
  have h₂ : inCol (colAt c n) = inHead n := Fin.ext (by simp only [inCol, colAt, inHead]; omega)
  rw [attend_eq H hX hQ hK, H.wo, share, h₁, h₂]

/-! ## The mesh's sum -/

/-- A device and all those behind it are the whole mesh. -/
theorem sum_mesh (g : Fin 32 → EReal) (c : Fin 32) : g c + ∑ j : Fin 31, g (behind c j) = ∑ d, g d := by
  have hinj : Function.Injective fun j : Fin 32 => (⟨(c.val + (32 - j.val)) % 32, Nat.mod_lt _ (by decide)⟩ : Fin 32) := fun a b h =>
    Fin.ext (by have := congrArg Fin.val h; simp only at this; omega)
  rw [← (Finite.injective_iff_bijective.mp hinj).sum_comp g, Fin.sum_univ_succ]
  congr 1
  · exact congrArg g (Fin.ext (by simp only [Fin.val_zero]; omega))

theorem out_entry (part : Fin 32 → FVec Ideal KernelIdeal.S512x512 .bf16) (r e : Fin 512) : outV part (ix2 r e) = ∑ d, part d (ix2 r e) := by
  refine (red_entry part (ownerOf r) (inBlock r) e).trans ?_
  rw [rowOf_owner]
  exact sum_mesh (fun d => part d (ix2 r e)) (ownerOf r)

/-- The columns, device by device. -/
theorem sum_columns (g : Fin 8192 → EReal) : ∑ d : Fin 32, ∑ n : Fin 256, g (colAt d n) = ∑ n, g n := by
  rw [← Fintype.sum_prod_type' (f := fun d n => g (colAt d n))]
  refine Fintype.sum_equiv (finProdFinEquiv (m := 32) (n := 256)) _ _ fun p => congrArg g (Fin.ext ?_)
  simp only [colAt, finProdFinEquiv_apply_val]
  omega

/-- The kernel's result is the reference's. -/
theorem out_eq {xs : Fin 32 → FVec Ideal KernelIdeal.S512x512 .bf16} {wqs : Fin 32 → FVec Ideal KernelIdeal.S512x256 .bf16}
    {ks vs : Fin 32 → FVec Ideal KernelIdeal.S512x4x64 .bf16} {wos : Fin 32 → FVec Ideal KernelIdeal.S256x512 .bf16}
    (H : ∀ c, Holds X Wq K V Wo c (xs c) (wqs c) (ks c) (vs c) (wos c)) (hX : ∀ i, IsReal (X i)) (hQ : ∀ i, IsReal (Wq i)) (hK : ∀ b i h d, IsReal (K (ix4 b i h d)))
    (b : Fin 2) (i : Fin 256) (e : Fin 512) :
    outV (fun c => partV (xs c) (wqs c) (ks c) (vs c) (wos c)) (ix2 (row b i) e) =
      ReferenceIdeal.Value.product (ReferenceIdeal.Value.context (ReferenceIdeal.Value.shares (ReferenceIdeal.Value.weights (ReferenceIdeal.Value.scores X Wq K))) V) Wo
        (ix3 b i e) := by
  rw [out_entry, ReferenceIdeal.Value.entry]
  simp only [fun c => part_eq (H c) hX hQ hK b i e]
  exact sum_columns _

end Cert.Agree

end
-- ==== Proof.Host.lean ====
/-
  What the host hands to the kernel, entry by entry: the rows of the two batches in one order, the device's columns of the query weights and its rows of the
  output weights. And what it hands back.
-/
module

public import proofs.«01_k».proof.Proof.Region
public import proofs.«01_k».proof.Proof.Agree
public import Idealize.ShloMosaic.Lib.StableHlo.ReadAt
public import Idealize.ShloMosaic.Lib.Pointwise

@[expose] public section

set_option maxRecDepth 16384

noncomputable section

namespace Cert.KernelIdeal.Run

open Idealize.ShloMosaic
open Idealize.ShloMosaic.TcCoe
open Cert.KernelIdeal.Gen Cert.Agree

/-- Where the device's columns begin, as the host works it out. -/
def startV (c : Dev nD) : IVec S_ 32 :=
  let w : IVec S_ 32 := muli (id (Host.remui (Host.divui (constantI S_ 32 c.word) (constantI S_ 32 1#32)) (constantI S_ 32 32#32))) (constantI S_ 32 256#32)
  select (cmpi .slt w (constantI S_ 32 0#32)) (addi w (constantI S_ 32 8192#32)) w

theorem startV_eq : ∀ c : Dev nD, (startV c (Shape.Idx.first h_S_)).toInt = ((c.val * 256 : ℕ) : ℤ) := by decide +kernel

variable (m : (ℓ : Loc nD τ sig) → Buf (Elt Ideal) ℓ)

theorem row_batch (b : Fin 2) (i : Fin 256) (h : (row b i).val / 256 < 2) : (⟨(row b i).val / 256, h⟩ : Fin 2) = b :=
  Fin.ext (by simp only [row]; omega)
theorem row_place (b : Fin 2) (i : Fin 256) (h : (row b i).val % 256 < 256) : (⟨(row b i).val % 256, h⟩ : Fin 256) = i :=
  Fin.ext (by simp only [row]; omega)

theorem v15_entry (c : Dev nD) (b : Fin 2) (i : Fin 256) (a : Fin 512) :
    (V1 m c main_v15 : FVec Ideal S512x512 .bf16) (ix2 (row b i) a) = m ((c.tc : Thread nD τ).loc main_arg0) (ix3 b i a) := by
  unfold V1
  after_reads_at
  simp only [row_batch, row_place]

theorem v16_entry (c : Dev nD) (b : Fin 2) (i : Fin 256) (h : Fin 4) (d : Fin 64) :
    (V1 m c main_v16 : FVec Ideal S512x4x64 .bf16) (ix3 (row b i) h d) = m ((c.tc : Thread nD τ).loc main_arg2) (ix4 b i h d) := by
  unfold V1
  after_reads_at
  simp only [row_batch, row_place]

theorem v17_entry (c : Dev nD) (b : Fin 2) (i : Fin 256) (h : Fin 4) (d : Fin 64) :
    (V1 m c main_v17 : FVec Ideal S512x4x64 .bf16) (ix3 (row b i) h d) = m ((c.tc : Thread nD τ).loc main_arg3) (ix4 b i h d) := by
  unfold V1
  after_reads_at
  simp only [row_batch, row_place]

theorem v9_entry (c : Dev nD) (a : Fin 512) (n : Fin 256) :
    (V1 m c main_v9 : FVec Ideal S512x256 .bf16) (ix2 a n) = m ((c.tc : Thread nD τ).loc main_arg1) (ix2 a (colAt c n)) := by
  unfold V1
  after_reads_at
  refine congrArg (m ((c.tc : Thread nD τ).loc main_arg1)) ?_
  congr 1
  · refine Fin.ext (Eq.trans (congrArg (· + a.val) (Host.clampedStart_of_le _ _ _ 0 ?_ (by decide))) (Nat.zero_add _))
    simp only [Matrix.cons_val_zero]
    after_reads_at
    rfl
  · refine Fin.ext (congrArg (· + n.val) (Host.clampedStart_of_le _ _ _ (c.val * 256) ?_ ?_))
    · simp only [Matrix.cons_val_one, Matrix.cons_val_zero]
      after_reads_at
      exact startV_eq c
    · have hc : c.val < 32 := c.isLt
      show c.val * 256 + 256 ≤ 8192
      omega

theorem v14_entry (c : Dev nD) (n : Fin 256) (e : Fin 512) :
    (V1 m c main_v14 : FVec Ideal S256x512 .bf16) (ix2 n e) = m ((c.tc : Thread nD τ).loc main_arg4) (ix2 (colAt c n) e) := by
  unfold V1
  after_reads_at
  refine congrArg (m ((c.tc : Thread nD τ).loc main_arg4)) ?_
  congr 1
  · refine Fin.ext (congrArg (· + n.val) (Host.clampedStart_of_le _ _ _ (c.val * 256) ?_ ?_))
    · simp only [Matrix.cons_val_zero]
      after_reads_at
      exact startV_eq c
    · have hc : c.val < 32 := c.isLt
      show c.val * 256 + 256 ≤ 8192
      omega
  · refine Fin.ext (Eq.trans (congrArg (· + e.val) (Host.clampedStart_of_le _ _ _ 0 ?_ (by decide))) (Nat.zero_add _))
    simp only [Matrix.cons_val_one, Matrix.cons_val_zero]
    after_reads_at
    rfl

theorem v19_entry (c : Dev nD) (b : Fin 2) (i : Fin 256) (e : Fin 512) :
    (V3 m (outs m) c main_v19 : FVec Ideal S2x256x512 .bf16) (ix3 b i e) = outV (partOf m) (ix2 (row b i) e) := by
  unfold V3
  after_reads_at
  exact congrFun ((Function.update_self (Proc.devRef .tc main_v18 : DevRef τ sig) (outs m 2 main_v18 c) (V1 m c)).trans (outs_v18 m 2 c)) _

end Cert.KernelIdeal.Run

end
-- ==== Proof.Algebraic.lean ====
/-
  The value claim: from finite x, Wq and K, both programs run and the kernel's result on every device is the reference's.
-/
module

public import proofs.«01_k».proof.Defs
public import proofs.«01_k».proof.Proof.Frames
public import proofs.«01_k».proof.Proof.Host

@[expose] public section

set_option maxRecDepth 16384

noncomputable section

namespace Cert.Agree

open Idealize.ShloMosaic
open Idealize.ShloMosaic.TcCoe
open Idealize.SL.Sem
open Cert.KernelIdeal.Run

/-! ## The precondition -/

theorem pre_kernel : Cert.Pre_finite_scores_KernelIdeal.Facts := ⟨by decide, by decide, by decide⟩
theorem pre_reference : Cert.Pre_finite_scores_ReferenceIdeal.Facts := ⟨by decide, by decide, by decide⟩

/-- An entry below infinity in size is a real. -/
theorem real_of_abs {x : EReal} (h : max x (-x) < ⊤) : IsReal x := by
  induction x with
  | bot => simp at h
  | top => simp at h
  | coe r => exact ⟨r, rfl⟩

theorem inf_bf16 : Ideal.ofBits .bf16 0x7F80#16 = ⊤ := by simp [Ideal.ofBits, Ideal.ieee]

theorem real_of_finite {S : Shape} (x : FVec Ideal S .bf16) (h : (⟨0, ![]⟩ : Shape).BroadcastsInDim S (![] : Fin 0 → Fin S.rank))
    (hx : cmpf .olt (Host.absf x) (broadcastInDim S ![] h (constant (⟨0, ![]⟩ : Shape) .bf16 0x7F80#16)) = fun _ => 1#1) (i : S.Idx) : IsReal (x i) := by
  have hi := congrFun hx i
  refine real_of_abs ?_
  pointwise [] at hi
  rw [inf_bf16] at hi
  by_contra hn
  rw [decide_eq_false (show ¬ FloatOps.absf (x i) < (⊤ : EReal) from hn)] at hi
  exact absurd hi (by decide)

/-! ## The blocks of a whole array -/

theorem block_entry (c : Fin 32) (w : FVec Ideal ⟨4, ![2, 256, 128, 64]⟩ .bf16) (b : Fin 2) (i : Fin 256) (h : Fin 4) (d : Fin 64) :
    Layout.block ⟨4, ![2, 256, 4, 64]⟩ ⟨4, ![2, 256, 128, 64]⟩ 2 32 c w (by decide) (ix4 b i h d) = w (ix4 b i (headAt c h) d) := by
  rw [Layout.block_apply]
  refine congrArg w (funext fun a => ?_)
  match a with
  | 0 => rfl
  | 1 => rfl
  | 2 => rfl
  | 3 => rfl

/-! ## The two programs -/

theorem algebraic : Cert.algebraic_KernelIdeal_ReferenceIdeal_pre_finite_scores_KernelIdeal
    (hPre_finite_scores_KernelIdeal := pre_kernel) := by
  intro m g m' g' hp ha
  have hX : ∀ i, IsReal ((m' (((0 : Dev ReferenceIdeal.nD).tc : Thread ReferenceIdeal.nD ReferenceIdeal.τ).loc ReferenceIdeal.main_arg0) :
      FVec Ideal ReferenceIdeal.S2x256x512 .bf16) i) := fun i => by
    rw [← (ha 0).1]
    exact real_of_finite _ _ (hp 0).1 i
  have hQ : ∀ i, IsReal ((m' (((0 : Dev ReferenceIdeal.nD).tc : Thread ReferenceIdeal.nD ReferenceIdeal.τ).loc ReferenceIdeal.main_arg1) :
      FVec Ideal ReferenceIdeal.S512x8192 .bf16) i) := fun i => by
    rw [← (ha 0).2.1]
    exact real_of_finite _ _ (hp 0).2.1 i
  have hK : ∀ b i h d, IsReal ((m' (((0 : Dev ReferenceIdeal.nD).tc : Thread ReferenceIdeal.nD ReferenceIdeal.τ).loc ReferenceIdeal.main_arg2) :
      FVec Ideal ReferenceIdeal.S2x256x128x64 .bf16) (ix4 b i h d)) := fun b i h d => by
    have hh : headAt ⟨h.val / 4, by omega⟩ ⟨h.val % 4, by omega⟩ = h := Fin.ext (by simp only [headAt]; omega)
    rw [← hh, ← (congrFun (ha ⟨h.val / 4, by change h.val / 4 < 32; omega⟩).2.2.1 _).trans (block_entry _ _ b i _ d)]
    exact real_of_finite _ _ (hp ⟨h.val / 4, by change h.val / 4 < 32; omega⟩).2.2 _
  have H : ∀ c : Fin 32, Holds (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3))
      (m' (((0 : Dev ReferenceIdeal.nD).tc : Thread ReferenceIdeal.nD ReferenceIdeal.τ).loc ReferenceIdeal.main_arg4)) c
      (KernelIdeal.Gen.V1 m c KernelIdeal.main_v15) (KernelIdeal.Gen.V1 m c KernelIdeal.main_v9) (KernelIdeal.Gen.V1 m c KernelIdeal.main_v16)
      (KernelIdeal.Gen.V1 m c KernelIdeal.main_v17) (KernelIdeal.Gen.V1 m c KernelIdeal.main_v14) := fun c =>
    { x := fun b i a => (v15_entry m c b i a).trans (congrFun (ha c).1 _)
      wq := fun a n => (v9_entry m c a n).trans (congrFun (ha c).2.1 _)
      k := fun b i h d => (v16_entry m c b i h d).trans ((congrFun (ha c).2.2.1 _).trans (block_entry c _ b i h d))
      v := fun b i h d => (v17_entry m c b i h d).trans ((congrFun (ha c).2.2.2.1 _).trans (block_entry c _ b i h d))
      wo := fun n e => (v14_entry m c n e).trans (congrFun (ha c).2.2.2.2 _) }
  refine ⟨ReferenceIdeal.Value.res_out0 m' 0, (θ_run KernelIdeal.defs _ _).mono (fun r h c => ⟨?_, args_kept m c (h.1 c)⟩) (run_main (F := Ideal) m g),
    (θ_run ReferenceIdeal.defs _ _).mono (fun r h => h 0) (ReferenceIdeal.Value.run (F := Ideal) m' g')⟩
  refine (h.1 c KernelIdeal.main_v19 (Finset.mem_filter.mpr ⟨StableHlo.devRef_mem_tcRefs KernelIdeal.main_v19, by decide⟩)).trans ?_
  rw [ReferenceIdeal.Value.result_eq]
  funext i
  obtain ⟨b, j, e, rfl⟩ : ∃ (b : Fin 2) (j : Fin 256) (e : Fin 512), i = ix3 b j e := ⟨i 0, i 1, i 2, eq_ix3 i⟩
  exact (v19_entry m c b j e).trans (out_eq H hX hQ hK b j e)

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Cert.KernelIdeal.Run Cert.Agree

theorem claim : Cert.Claim := ⟨Cert.Kernel.Gen.facts, Cert.KernelIdeal.Gen.facts, Cert.ReferenceIdeal.Gen.facts, pre_kernel, pre_reference,
  frame_kernel, frame_ideal, fun m ρ _ => frame_ideal m ρ trivial, frame_reference, fun m ρ _ => frame_reference m ρ trivial, mask_named, algebraic⟩

end Cert.Proof

end
